-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x8192 : Shape := ⟨2, ![4096, 8192]⟩
abbrev S_ : Shape := ⟨0, ![]⟩
abbrev S1 : Shape := ⟨1, ![1]⟩
abbrev S4 : Shape := ⟨1, ![4]⟩
abbrev S1024x8192 : Shape := ⟨2, ![1024, 8192]⟩
abbrev S1024x1024 : Shape := ⟨2, ![1024, 1024]⟩
abbrev S1024x512 : Shape := ⟨2, ![1024, 512]⟩
abbrev S4x1024x1024 : Shape := ⟨3, ![4, 1024, 1024]⟩
abbrev S3 : Shape := ⟨1, ![3]⟩
abbrev S1x1024x1024 : Shape := ⟨3, ![1, 1024, 1024]⟩

abbrev nBuf : Space → Nat
  | .hbm => 70
  | .vmem => 5
  | .smem => 1
  | _ => 0

abbrev bufTy : (tb : Table) → Fin (tcTables nBuf tb) → BufTy
  | .hbm, ⟨0, _⟩ => ⟨S4096x1024, .f32⟩
  | .hbm, ⟨1, _⟩ => ⟨S4096x8192, .f32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i1⟩
  | .hbm, ⟨23, _⟩ => ⟨S_, .i1⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i1⟩
  | .hbm, ⟨42, _⟩ => ⟨S_, .i1⟩
  | .hbm, ⟨43, _⟩ => ⟨S_, .i1⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i1⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S_, .i32⟩
  | .hbm, ⟨56, _⟩ => ⟨S_, .i1⟩
  | .hbm, ⟨57, _⟩ => ⟨S_, .i32⟩
  | .hbm, ⟨58, _⟩ => ⟨S_, .i1⟩
  | .hbm, ⟨59, _⟩ => ⟨S_, .i32⟩
  | .hbm, ⟨60, _⟩ => ⟨S_, .i1⟩
  | .hbm, ⟨61, _⟩ => ⟨S_, .i1⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S1, .i32⟩
  | .hbm, ⟨66, _⟩ => ⟨S1, .i32⟩
  | .hbm, ⟨67, _⟩ => ⟨S1, .i32⟩
  | .hbm, ⟨68, _⟩ => ⟨S1, .i32⟩
  | .hbm, ⟨69, _⟩ => ⟨S1024x8192, .f32⟩
  | .local _ .vmem, ⟨0, _⟩ => ⟨S1024x1024, .f32⟩
  | .local _ .vmem, ⟨1, _⟩ => ⟨S1024x512, .f32⟩
  | .local _ .vmem, ⟨2, _⟩ => ⟨S1024x512, .f32⟩
  | .local _ .vmem, ⟨3, _⟩ => ⟨S1024x8192, .f32⟩
  | .local _ .vmem, ⟨4, _⟩ => ⟨S4x1024x1024, .f32⟩
  | .local _ .smem, ⟨0, _⟩ => ⟨S4, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  (ofTc nBuf bufTy 1 11 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_c_2 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_c_1 : Ref sig .tc := ⟨.hbm, 17, rfl⟩
abbrev main_call0_v4 : Ref sig .tc := ⟨.hbm, 18, rfl⟩
abbrev main_call0_c_2 : Ref sig .tc := ⟨.hbm, 19, rfl⟩
abbrev main_call0_v5 : Ref sig .tc := ⟨.hbm, 20, rfl⟩
abbrev main_call0_c_3 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_v6 : Ref sig .tc := ⟨.hbm, 26, rfl⟩
abbrev main_c_3 : Ref sig .tc := ⟨.hbm, 27, rfl⟩
abbrev main_v7 : Ref sig .tc := ⟨.hbm, 28, rfl⟩
abbrev main_c_4 : Ref sig .tc := ⟨.hbm, 29, rfl⟩
abbrev main_call1_v0 : Ref sig .tc := ⟨.hbm, 30, rfl⟩
abbrev main_call1_c : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_c_1 : Ref sig .tc := ⟨.hbm, 36, rfl⟩
abbrev main_call1_v4 : Ref sig .tc := ⟨.hbm, 37, rfl⟩
abbrev main_call1_c_2 : Ref sig .tc := ⟨.hbm, 38, rfl⟩
abbrev main_call1_v5 : Ref sig .tc := ⟨.hbm, 39, rfl⟩
abbrev main_call1_c_3 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_v8 : Ref sig .tc := ⟨.hbm, 45, rfl⟩
abbrev main_c_5 : Ref sig .tc := ⟨.hbm, 46, rfl⟩
abbrev main_v9 : Ref sig .tc := ⟨.hbm, 47, rfl⟩
abbrev main_c_6 : Ref sig .tc := ⟨.hbm, 48, rfl⟩
abbrev main_call2_v0 : Ref sig .tc := ⟨.hbm, 49, rfl⟩
abbrev main_call2_c : Ref sig .tc := ⟨.hbm, 50, rfl⟩
abbrev main_call2_v1 : Ref sig .tc := ⟨.hbm, 51, rfl⟩
abbrev main_call2_c_0 : Ref sig .tc := ⟨.hbm, 52, rfl⟩
abbrev main_call2_v2 : Ref sig .tc := ⟨.hbm, 53, rfl⟩
abbrev main_call2_v3 : Ref sig .tc := ⟨.hbm, 54, rfl⟩
abbrev main_call2_c_1 : Ref sig .tc := ⟨.hbm, 55, rfl⟩
abbrev main_call2_v4 : Ref sig .tc := ⟨.hbm, 56, rfl⟩
abbrev main_call2_c_2 : Ref sig .tc := ⟨.hbm, 57, rfl⟩
abbrev main_call2_v5 : Ref sig .tc := ⟨.hbm, 58, rfl⟩
abbrev main_call2_c_3 : Ref sig .tc := ⟨.hbm, 59, rfl⟩
abbrev main_call2_v6 : Ref sig .tc := ⟨.hbm, 60, rfl⟩
abbrev main_call2_v7 : Ref sig .tc := ⟨.hbm, 61, rfl⟩
abbrev main_call2_v8 : Ref sig .tc := ⟨.hbm, 62, rfl⟩
abbrev main_call2_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v16 : Ref sig .tc := ⟨.hbm, 69, rfl⟩
abbrev main_v15 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev barrier0 : Sem sig := 0

abbrev nD : Nat := 4
abbrev τ : Topo := Topo.v7x

variable {F : FTy → Type} [FloatOps F]

abbrev grid0 : Pipeline.Grid := ⟨2, ![4, 16], ![false, false]⟩

abbrev pre0 : Pipeline.Prefetch sig := ⟨1, ![main_v15.idx], fun | 0 => main_v15.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg0 : BitVec 32 := BitVec.ofNat 32 (i 0).val
  let c0_i32 : BitVec 32 := 0#32
  let v3 : BitVec 1 := Scalar.cmpi .eq arg0 c0_i32
  let arg1 : BitVec 32 := BitVec.ofNat 32 (i 1).val
  let c0_i32_0 : BitVec 32 := 0#32
  let v4 : BitVec 1 := Scalar.cmpi .eq arg1 c0_i32_0
  let v5 : BitVec 1 := Scalar.andi v3 v4
  let v6 : BitVec 32 := Scalar.extui v5
  let c0_i32_1 : BitVec 32 := 0#32
  let v7 : BitVec 1 := Scalar.cmpi .ne v6 c0_i32_1
  v7

def k0_dev1 (v0 : BitVec 32) : Nat :=
  let c1_i32 : BitVec 32 := 1#32
  let v31 : BitVec 32 := Scalar.addi v0 c1_i32
  let c4_i32 : BitVec 32 := 4#32
  let c0_i32_13 : BitVec 32 := 0#32
  let v32 : BitVec 1 := Scalar.cmpi .eq c4_i32 c0_i32_13
  let c1_i32_14 : BitVec 32 := 1#32
  let v33 : BitVec 32 := Scalar.select v32 c1_i32_14 c4_i32
  let v34 : BitVec 32 := Scalar.remsi v31 v33
  let c0_i32_16 : BitVec 32 := 0#32
  let v36 : BitVec 1 := Scalar.cmpi .slt v34 c0_i32_16
  let c0_i32_17 : BitVec 32 := 0#32
  let v37 : BitVec 1 := Scalar.cmpi .slt v33 c0_i32_17
  let v38 : BitVec 1 := Scalar.xori v36 v37
  let c0_i32_15 : BitVec 32 := 0#32
  let v35 : BitVec 1 := Scalar.cmpi .ne v34 c0_i32_15
  let v39 : BitVec 1 := Scalar.andi v38 v35
  let v40 : BitVec 32 := Scalar.addi v34 v33
  let v41 : BitVec 32 := Scalar.select v39 v40 v34
  v41.toNat

def k0_dev2 (v0 : BitVec 32) : Nat :=
  let c2_i32 : BitVec 32 := 2#32
  let v42 : BitVec 32 := Scalar.addi v0 c2_i32
  let c4_i32_19 : BitVec 32 := 4#32
  let c0_i32_20 : BitVec 32 := 0#32
  let v43 : BitVec 1 := Scalar.cmpi .eq c4_i32_19 c0_i32_20
  let c1_i32_21 : BitVec 32 := 1#32
  let v44 : BitVec 32 := Scalar.select v43 c1_i32_21 c4_i32_19
  let v45 : BitVec 32 := Scalar.remsi v42 v44
  let c0_i32_23 : BitVec 32 := 0#32
  let v47 : BitVec 1 := Scalar.cmpi .slt v45 c0_i32_23
  let c0_i32_24 : BitVec 32 := 0#32
  let v48 : BitVec 1 := Scalar.cmpi .slt v44 c0_i32_24
  let v49 : BitVec 1 := Scalar.xori v47 v48
  let c0_i32_22 : BitVec 32 := 0#32
  let v46 : BitVec 1 := Scalar.cmpi .ne v45 c0_i32_22
  let v50 : BitVec 1 := Scalar.andi v49 v46
  let v51 : BitVec 32 := Scalar.addi v45 v44
  let v52 : BitVec 32 := Scalar.select v50 v51 v45
  v52.toNat
def k0_dev3 (v0 : BitVec 32) : Nat :=
  let c3_i32_26 : BitVec 32 := 3#32
  let v53 : BitVec 32 := Scalar.addi v0 c3_i32_26
  let c4_i32_27 : BitVec 32 := 4#32
  let c0_i32_28 : BitVec 32 := 0#32
  let v54 : BitVec 1 := Scalar.cmpi .eq c4_i32_27 c0_i32_28
  let c1_i32_29 : BitVec 32 := 1#32
  let v55 : BitVec 32 := Scalar.select v54 c1_i32_29 c4_i32_27
  let v56 : BitVec 32 := Scalar.remsi v53 v55
  let c0_i32_31 : BitVec 32 := 0#32
  let v58 : BitVec 1 := Scalar.cmpi .slt v56 c0_i32_31
  let c0_i32_32 : BitVec 32 := 0#32
  let v59 : BitVec 1 := Scalar.cmpi .slt v55 c0_i32_32
  let v60 : BitVec 1 := Scalar.xori v58 v59
  let c0_i32_30 : BitVec 32 := 0#32
  let v57 : BitVec 1 := Scalar.cmpi .ne v56 c0_i32_30
  let v61 : BitVec 1 := Scalar.andi v60 v57
  let v62 : BitVec 32 := Scalar.addi v56 v55
  let v63 : BitVec 32 := Scalar.select v61 v62 v56
  v63.toNat
def k0_off2 (v0 : BitVec 32) : Fin 1 → Nat :=
  ![v0.toNat]
def k0_off3 (v0 : BitVec 32) : Fin 3 → Nat :=
  let c0_i32_43 : BitVec 32 := 0#32
  let c0_i32_44 : BitVec 32 := 0#32
  ![v0.toNat, 0, 0]
def k0_off4 (v0 : BitVec 32) (c1_i32_35 : BitVec 32) : Fin 2 → Nat :=
  let v64 : BitVec 32 := Scalar.addi v0 c1_i32_35
  let c4_i32_36 : BitVec 32 := 4#32
  let c0_i32_37 : BitVec 32 := 0#32
  let v65 : BitVec 1 := Scalar.cmpi .eq c4_i32_36 c0_i32_37
  let c1_i32_38 : BitVec 32 := 1#32
  let v66 : BitVec 32 := Scalar.select v65 c1_i32_38 c4_i32_36
  let v67 : BitVec 32 := Scalar.remsi v64 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  let c1024_i32 : BitVec 32 := 1024#32
  let v75 : BitVec 32 := Scalar.muli v74 c1024_i32
  let c0_i32_45 : BitVec 32 := 0#32
  ![v75.toNat, 0]
def k0_dev4 (v0 : BitVec 32) : Nat :=
  let c1_i32_35 : BitVec 32 := 1#32
  let v64 : BitVec 32 := Scalar.addi v0 c1_i32_35
  let c4_i32_36 : BitVec 32 := 4#32
  let c0_i32_37 : BitVec 32 := 0#32
  let v65 : BitVec 1 := Scalar.cmpi .eq c4_i32_36 c0_i32_37
  let c1_i32_38 : BitVec 32 := 1#32
  let v66 : BitVec 32 := Scalar.select v65 c1_i32_38 c4_i32_36
  let v67 : BitVec 32 := Scalar.remsi v64 v66
  let c0_i32_40 : BitVec 32 := 0#32
  let v69 : BitVec 1 := Scalar.cmpi .slt v67 c0_i32_40
  let c0_i32_41 : BitVec 32 := 0#32
  let v70 : BitVec 1 := Scalar.cmpi .slt v66 c0_i32_41
  let v71 : BitVec 1 := Scalar.xori v69 v70
  let c0_i32_39 : BitVec 32 := 0#32
  let v68 : BitVec 1 := Scalar.cmpi .ne v67 c0_i32_39
  let v72 : BitVec 1 := Scalar.andi v71 v68
  let v73 : BitVec 32 := Scalar.addi v67 v66
  let v74 : BitVec 32 := Scalar.select v72 v73 v67
  v74.toNat
def k0_dev5 (v0 : BitVec 32) : Nat :=
  let c2_i32_46 : BitVec 32 := 2#32
  let v83 : BitVec 32 := Scalar.addi v0 c2_i32_46
  let c4_i32_47 : BitVec 32 := 4#32
  let c0_i32_48 : BitVec 32 := 0#32
  let v84 : BitVec 1 := Scalar.cmpi .eq c4_i32_47 c0_i32_48
  let c1_i32_49 : BitVec 32 := 1#32
  let v85 : BitVec 32 := Scalar.select v84 c1_i32_49 c4_i32_47
  let v86 : BitVec 32 := Scalar.remsi v83 v85
  let c0_i32_51 : BitVec 32 := 0#32
  let v88 : BitVec 1 := Scalar.cmpi .slt v86 c0_i32_51
  let c0_i32_52 : BitVec 32 := 0#32
  let v89 : BitVec 1 := Scalar.cmpi .slt v85 c0_i32_52
  let v90 : BitVec 1 := Scalar.xori v88 v89
  let c0_i32_50 : BitVec 32 := 0#32
  let v87 : BitVec 1 := Scalar.cmpi .ne v86 c0_i32_50
  let v91 : BitVec 1 := Scalar.andi v90 v87
  let v92 : BitVec 32 := Scalar.addi v86 v85
  let v93 : BitVec 32 := Scalar.select v91 v92 v86
  v93.toNat
def k0_dev6 (v0 : BitVec 32) : Nat :=
  let c3_i32_58 : BitVec 32 := 3#32
  let v102 : BitVec 32 := Scalar.addi v0 c3_i32_58
  let c4_i32_59 : BitVec 32 := 4#32
  let c0_i32_60 : BitVec 32 := 0#32
  let v103 : BitVec 1 := Scalar.cmpi .eq c4_i32_59 c0_i32_60
  let c1_i32_61 : BitVec 32 := 1#32
  let v104 : BitVec 32 := Scalar.select v103 c1_i32_61 c4_i32_59
  let v105 : BitVec 32 := Scalar.remsi v102 v104
  let c0_i32_63 : BitVec 32 := 0#32
  let v107 : BitVec 1 := Scalar.cmpi .slt v105 c0_i32_63
  let c0_i32_64 : BitVec 32 := 0#32
  let v108 : BitVec 1 := Scalar.cmpi .slt v104 c0_i32_64
  let v109 : BitVec 1 := Scalar.xori v107 v108
  let c0_i32_62 : BitVec 32 := 0#32
  let v106 : BitVec 1 := Scalar.cmpi .ne v105 c0_i32_62
  let v110 : BitVec 1 := Scalar.andi v109 v106
  let v111 : BitVec 32 := Scalar.addi v105 v104
  let v112 : BitVec 32 := Scalar.select v110 v111 v105
  v112.toNat
def k0_cond2 (i : grid0.Coords) : BitVec 1 :=
  let arg0 : BitVec 32 := BitVec.ofNat 32 (i 0).val
  let c0_i32_2 : BitVec 32 := 0#32
  let v8 : BitVec 1 := Scalar.cmpi .sgt arg0 c0_i32_2
  let arg1 : BitVec 32 := BitVec.ofNat 32 (i 1).val
  let c0_i32_3 : BitVec 32 := 0#32
  let v9 : BitVec 1 := Scalar.cmpi .eq arg1 c0_i32_3
  let v10 : BitVec 1 := Scalar.andi v8 v9
  let v11 : BitVec 32 := Scalar.extui v10
  let c0_i32_4 : BitVec 32 := 0#32
  let v12 : BitVec 1 := Scalar.cmpi .ne v11 c0_i32_4
  v12

def k0_off5 (v2 : BitVec 32) : Fin 1 → Nat :=
  ![v2.toNat]

def k0_off6 (v2 : BitVec 32) : Fin 3 → Nat :=
  let c0_i32_14 : BitVec 32 := 0#32
  let c0_i32_15 : BitVec 32 := 0#32
  ![v2.toNat, 0, 0]
def k0_cond3 (i : grid0.Coords) : BitVec 1 :=
  let arg0 : BitVec 32 := BitVec.ofNat 32 (i 0).val
  let c0_i32_5 : BitVec 32 := 0#32
  let v14 : BitVec 1 := Scalar.cmpi .eq arg0 c0_i32_5
  let v15 : BitVec 32 := Scalar.extui v14
  let c0_i32_6 : BitVec 32 := 0#32
  let v16 : BitVec 1 := Scalar.cmpi .ne v15 c0_i32_6
  v16

def k0_off7 (i : grid0.Coords) : Fin 2 → Nat :=
  let c0_17 : Index := 0#32
  let arg1 : BitVec 32 := BitVec.ofNat 32 (i 1).val
  let c512_i32 : BitVec 32 := 512#32
  let v13 : BitVec 32 := Scalar.muli arg1 c512_i32
  let v35 : Index := Scalar.indexCast v13
  ![0, v35.toNat]
def k0_cond4 (i : grid0.Coords) : BitVec 1 :=
  let arg0 : BitVec 32 := BitVec.ofNat 32 (i 0).val
  let c0_i32_7 : BitVec 32 := 0#32
  let v17 : BitVec 1 := Scalar.cmpi .sgt arg0 c0_i32_7
  let c3_i32 : BitVec 32 := 3#32
  let v18 : BitVec 1 := Scalar.cmpi .slt arg0 c3_i32
  let v19 : BitVec 1 := Scalar.andi v17 v18
  let v20 : BitVec 32 := Scalar.extui v19
  let c0_i32_8 : BitVec 32 := 0#32
  let v21 : BitVec 1 := Scalar.cmpi .ne v20 c0_i32_8
  v21

def k0_off8 (i : grid0.Coords) : Fin 2 → Nat :=
  let c0_13 : Index := 0#32
  let arg1 : BitVec 32 := BitVec.ofNat 32 (i 1).val
  let c512_i32 : BitVec 32 := 512#32
  let v13 : BitVec 32 := Scalar.muli arg1 c512_i32
  let v30 : Index := Scalar.indexCast v13
  ![0, v30.toNat]
def k0_off9 (v2 : BitVec 32) : Fin 3 → Nat :=
  let v33 : Index := Scalar.indexCast v2
  let c0_14 : Index := 0#32
  let c0_15 : Index := 0#32
  ![v33.toNat, 0, 0]
def k0_cond5 (i : grid0.Coords) : BitVec 1 :=
  let arg0 : BitVec 32 := BitVec.ofNat 32 (i 0).val
  let c3_i32_9 : BitVec 32 := 3#32
  let v22 : BitVec 1 := Scalar.cmpi .eq arg0 c3_i32_9
  let v23 : BitVec 32 := Scalar.extui v22
  let c0_i32_10 : BitVec 32 := 0#32
  let v24 : BitVec 1 := Scalar.cmpi .ne v23 c0_i32_10
  v24

def k0_off10 (i : grid0.Coords) : Fin 2 → Nat :=
  let c0_13 : Index := 0#32
  let arg1 : BitVec 32 := BitVec.ofNat 32 (i 1).val
  let c512_i32 : BitVec 32 := 512#32
  let v13 : BitVec 32 := Scalar.muli arg1 c512_i32
  let v30 : Index := Scalar.indexCast v13
  ![0, v30.toNat]
def k0_off11 (v2 : BitVec 32) : Fin 3 → Nat :=
  let v33 : Index := Scalar.indexCast v2
  let c0_14 : Index := 0#32
  let c0_15 : Index := 0#32
  ![v33.toNat, 0, 0]

def k0_chk2 (i : grid0.Coords) (v2 : BitVec 32) : Prop :=
  (∀ (k0_h2 : k0_cond2 i = 1#1), ∀ a, (k0_off5 v2) a + S1.size a ≤ S4.size a) ∧
  (∀ (k0_h2 : k0_cond2 i = 1#1), ∀ a, (k0_off6 v2) a + S1x1024x1024.size a ≤ S4x1024x1024.size a) ∧
  (∀ (k0_h4 : k0_cond4 i = 1#1), ∀ a, (k0_off9 v2) a + S1x1024x1024.size a ≤ S4x1024x1024.size a) ∧
  (∀ (k0_h5 : k0_cond5 i = 1#1), ∀ a, (k0_off11 v2) a + S1x1024x1024.size a ≤ S4x1024x1024.size a)
theorem k0_off5_inb : ∀ (i : grid0.Coords) (v2 : BitVec 32) (k0_hw2 : k0_chk2 i v2), ∀ (k0_h2 : k0_cond2 i = 1#1), ∀ a, (k0_off5 v2) a + S1.size a ≤ S4.size a := fun i v2 k0_hw2 k0_h2 => k0_hw2.1 k0_h2
theorem k0_off6_inb : ∀ (i : grid0.Coords) (v2 : BitVec 32) (k0_hw2 : k0_chk2 i v2), ∀ (k0_h2 : k0_cond2 i = 1#1), ∀ a, (k0_off6 v2) a + S1x1024x1024.size a ≤ S4x1024x1024.size a := fun i v2 k0_hw2 k0_h2 => k0_hw2.2.1 k0_h2
theorem k0_off9_inb : ∀ (i : grid0.Coords) (v2 : BitVec 32) (k0_hw2 : k0_chk2 i v2), ∀ (k0_h4 : k0_cond4 i = 1#1), ∀ a, (k0_off9 v2) a + S1x1024x1024.size a ≤ S4x1024x1024.size a := fun i v2 k0_hw2 k0_h4 => k0_hw2.2.2.1 k0_h4
theorem k0_off11_inb : ∀ (i : grid0.Coords) (v2 : BitVec 32) (k0_hw2 : k0_chk2 i v2), ∀ (k0_h5 : k0_cond5 i = 1#1), ∀ a, (k0_off11 v2) a + S1x1024x1024.size a ≤ S4x1024x1024.size a := fun i v2 k0_hw2 k0_h5 => k0_hw2.2.2.2 k0_h5

def k0_cond6 (i : grid0.Coords) : BitVec 1 :=
  let arg0 : BitVec 32 := BitVec.ofNat 32 (i 0).val
  let c3_i32_11 : BitVec 32 := 3#32
  let v25 : BitVec 1 := Scalar.cmpi .eq arg0 c3_i32_11
  let arg1 : BitVec 32 := BitVec.ofNat 32 (i 1).val
  let c15_i32 : BitVec 32 := 15#32
  let v26 : BitVec 1 := Scalar.cmpi .eq arg1 c15_i32
  let v27 : BitVec 1 := Scalar.andi v25 v26
  let v28 : BitVec 32 := Scalar.extui v27
  let c0_i32_12 : BitVec 32 := 0#32
  let v29 : BitVec 1 := Scalar.cmpi .ne v28 c0_i32_12
  v29

def k0_off12 (v0 : BitVec 32) (c1_i32 : BitVec 32) : Fin 2 → Nat :=
  let v30 : BitVec 32 := Scalar.addi v0 c1_i32
  let c4_i32 : BitVec 32 := 4#32
  let c0_i32_13 : BitVec 32 := 0#32
  let v31 : BitVec 1 := Scalar.cmpi .eq c4_i32 c0_i32_13
  let c1_i32_14 : BitVec 32 := 1#32
  let v32 : BitVec 32 := Scalar.select v31 c1_i32_14 c4_i32
  let v33 : BitVec 32 := Scalar.remsi v30 v32
  let c0_i32_16 : BitVec 32 := 0#32
  let v35 : BitVec 1 := Scalar.cmpi .slt v33 c0_i32_16
  let c0_i32_17 : BitVec 32 := 0#32
  let v36 : BitVec 1 := Scalar.cmpi .slt v32 c0_i32_17
  let v37 : BitVec 1 := Scalar.xori v35 v36
  let c0_i32_15 : BitVec 32 := 0#32
  let v34 : BitVec 1 := Scalar.cmpi .ne v33 c0_i32_15
  let v38 : BitVec 1 := Scalar.andi v37 v34
  let v39 : BitVec 32 := Scalar.addi v33 v32
  let v40 : BitVec 32 := Scalar.select v38 v39 v33
  let c1024_i32 : BitVec 32 := 1024#32
  let v41 : BitVec 32 := Scalar.muli v40 c1024_i32
  let c0_i32_20 : BitVec 32 := 0#32
  ![v41.toNat, 0]
def k0_off13 (v0 : BitVec 32) : Fin 3 → Nat :=
  let c0_i32_21 : BitVec 32 := 0#32
  let c0_i32_22 : BitVec 32 := 0#32
  ![v0.toNat, 0, 0]

def k0_chk1 (i : grid0.Coords) (v0 : BitVec 32) : Prop :=
  (∀ (k0_h1 : k0_cond1 i = 1#1), (k0_dev1 v0) < nD) ∧
  (∀ (k0_h1 : k0_cond1 i = 1#1), (k0_dev2 v0) < nD) ∧
  (∀ (k0_h1 : k0_cond1 i = 1#1), (k0_dev3 v0) < nD) ∧
  (∀ (k0_h1 : k0_cond1 i = 1#1), ∀ a, (k0_off2 v0) a + S1.size a ≤ S4.size a) ∧
  (∀ (k0_h1 : k0_cond1 i = 1#1), ∀ a, (k0_off3 v0) a + S1x1024x1024.size a ≤ S4x1024x1024.size a) ∧
  (∀ (k0_h1 : k0_cond1 i = 1#1), ∀ (r : Fin 3), ∀ a, (k0_off4 v0 (BitVec.ofNat 32 (1 + r.val))) a + S1024x1024.size a ≤ S4096x1024.size a) ∧
  (∀ (k0_h1 : k0_cond1 i = 1#1), (k0_dev4 v0) < nD) ∧
  (∀ (k0_h1 : k0_cond1 i = 1#1), (k0_dev5 v0) < nD) ∧
  (∀ (k0_h1 : k0_cond1 i = 1#1), (k0_dev6 v0) < nD) ∧
  (∀ (k0_h6 : k0_cond6 i = 1#1), ∀ (r : Fin 3), ∀ a, (k0_off12 v0 (BitVec.ofNat 32 (1 + r.val))) a + S1024x1024.size a ≤ S4096x1024.size a) ∧
  (∀ (k0_h6 : k0_cond6 i = 1#1), ∀ a, (k0_off13 v0) a + S1x1024x1024.size a ≤ S4x1024x1024.size a)
theorem k0_dev1_lt : ∀ (i : grid0.Coords) (v0 : BitVec 32) (k0_hw1 : k0_chk1 i v0), ∀ (k0_h1 : k0_cond1 i = 1#1), (k0_dev1 v0) < nD := fun i v0 k0_hw1 k0_h1 => k0_hw1.1 k0_h1
theorem k0_dev2_lt : ∀ (i : grid0.Coords) (v0 : BitVec 32) (k0_hw1 : k0_chk1 i v0), ∀ (k0_h1 : k0_cond1 i = 1#1), (k0_dev2 v0) < nD := fun i v0 k0_hw1 k0_h1 => k0_hw1.2.1 k0_h1
theorem k0_dev3_lt : ∀ (i : grid0.Coords) (v0 : BitVec 32) (k0_hw1 : k0_chk1 i v0), ∀ (k0_h1 : k0_cond1 i = 1#1), (k0_dev3 v0) < nD := fun i v0 k0_hw1 k0_h1 => k0_hw1.2.2.1 k0_h1
theorem k0_off2_inb : ∀ (i : grid0.Coords) (v0 : BitVec 32) (k0_hw1 : k0_chk1 i v0), ∀ (k0_h1 : k0_cond1 i = 1#1), ∀ a, (k0_off2 v0) a + S1.size a ≤ S4.size a := fun i v0 k0_hw1 k0_h1 => k0_hw1.2.2.2.1 k0_h1
theorem k0_off3_inb : ∀ (i : grid0.Coords) (v0 : BitVec 32) (k0_hw1 : k0_chk1 i v0), ∀ (k0_h1 : k0_cond1 i = 1#1), ∀ a, (k0_off3 v0) a + S1x1024x1024.size a ≤ S4x1024x1024.size a := fun i v0 k0_hw1 k0_h1 => k0_hw1.2.2.2.2.1 k0_h1
theorem k0_off4_inb : ∀ (i : grid0.Coords) (v0 : BitVec 32) (k0_hw1 : k0_chk1 i v0), ∀ (k0_h1 : k0_cond1 i = 1#1), ∀ (r : Fin 3), ∀ a, (k0_off4 v0 (BitVec.ofNat 32 (1 + r.val))) a + S1024x1024.size a ≤ S4096x1024.size a := fun i v0 k0_hw1 k0_h1 r => k0_hw1.2.2.2.2.2.1 k0_h1 r
theorem k0_dev4_lt : ∀ (i : grid0.Coords) (v0 : BitVec 32) (k0_hw1 : k0_chk1 i v0), ∀ (k0_h1 : k0_cond1 i = 1#1), (k0_dev4 v0) < nD := fun i v0 k0_hw1 k0_h1 => k0_hw1.2.2.2.2.2.2.1 k0_h1
theorem k0_dev5_lt : ∀ (i : grid0.Coords) (v0 : BitVec 32) (k0_hw1 : k0_chk1 i v0), ∀ (k0_h1 : k0_cond1 i = 1#1), (k0_dev5 v0) < nD := fun i v0 k0_hw1 k0_h1 => k0_hw1.2.2.2.2.2.2.2.1 k0_h1
theorem k0_dev6_lt : ∀ (i : grid0.Coords) (v0 : BitVec 32) (k0_hw1 : k0_chk1 i v0), ∀ (k0_h1 : k0_cond1 i = 1#1), (k0_dev6 v0) < nD := fun i v0 k0_hw1 k0_h1 => k0_hw1.2.2.2.2.2.2.2.2.1 k0_h1
theorem k0_off12_inb : ∀ (i : grid0.Coords) (v0 : BitVec 32) (k0_hw1 : k0_chk1 i v0), ∀ (k0_h6 : k0_cond6 i = 1#1), ∀ (r : Fin 3), ∀ a, (k0_off12 v0 (BitVec.ofNat 32 (1 + r.val))) a + S1024x1024.size a ≤ S4096x1024.size a := fun i v0 k0_hw1 k0_h6 r => k0_hw1.2.2.2.2.2.2.2.2.2.1 k0_h6 r
theorem k0_off13_inb : ∀ (i : grid0.Coords) (v0 : BitVec 32) (k0_hw1 : k0_chk1 i v0), ∀ (k0_h6 : k0_cond6 i = 1#1), ∀ a, (k0_off13 v0) a + S1x1024x1024.size a ≤ S4x1024x1024.size a := fun i v0 k0_hw1 k0_h6 => k0_hw1.2.2.2.2.2.2.2.2.2.2 k0_h6

def cc0_transform_1 (inb_S4_S1_0 : ∀ a, (![0] : Fin 1 → Nat) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S4) ![0] S1.size inb_S4_S1_0) numel1_S1
  let c0_i32 : BitVec 32 := 0#32
  let c0_i32_0 : BitVec 32 := 0#32
  ![v0.toNat, c0_i32.toNat]

def cc0_transform_2 (k0_off1_inb : ∀ i : grid0.Coords, ∀ a, (k0_off1 i) a + S1.size a ≤ S4.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S4) ![v0.toNat] S1.size (k0_off1_inb i)) numel1_S1
  let c0_i32 : BitVec 32 := 0#32
  ![v1.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Table.lean ====
/- The prefetched table: what the host operations before the call leave in the array the index maps and the body read. -/
module

public import proofs.«01_k».proof.Proof.Gen.KernelIdeal.Regions
public import proofs.«01_k».proof.Proof.Gen.KernelIdeal
public import Idealize.ShloMosaic.Lib.StableHlo.ReadAt

@[expose] public section

noncomputable section

namespace Cert.KernelIdeal.Pf

open Idealize.ShloMosaic Idealize.ShloMosaic.TcCoe
open Cert.KernelIdeal Cert.KernelIdeal.Gen

variable {F : FTy → Type} [FloatOps F]
variable (m : (ℓ : Loc nD τ sig) → Buf (Elt F) ℓ)

/-- The device whose rows core `c` meets in round `j`: itself, then the devices one, three and two places on. -/
def ord (c : Dev nD) (j : Fin 4) : Fin 4 := c + ![0, 1, 3, 2] j

/-- The host's first value is the device's own number. -/
theorem V1_v4 (c : Dev nD) (i : S_.Idx) : V1 m c main_v4 i = BitVec.ofNat 32 c.val := by
  rw [V1]
  after_reads_at
  simp only [id, Host.remui, Host.divui, constantI]
  revert c; decide +kernel

/-- One past the device's number. -/
theorem V1_v5 (c : Dev nD) (i : S_.Idx) : V1 m c main_v5 i = BitVec.ofNat 32 (c.val + 1) := by
  rw [V1]
  after_reads_at
  simp only [id, Host.remui, Host.divui, constantI, addi]
  revert c; decide +kernel

/-- The first divisor is the number of devices. -/
theorem V1_c2 (c : Dev nD) (i : S_.Idx) : V1 m c main_c_2 i = 4#32 := by
  rw [V1]
  after_reads_simp
  rfl

/-- The first remainder the host takes: the device 1 places on. -/
theorem V2_v6 (c : Dev nD) (i : S_.Idx) : V2 m c main_v6 i = BitVec.ofNat 32 (c + 1 : Fin 4).val := by
  rw [V2]
  after_reads_at
  simp only [id, Host.remui, Host.divui, constantI]
  revert c; decide +kernel

/-- The second remainder the host takes: the device 3 places on. -/
theorem V4_v8 (c : Dev nD) (i : S_.Idx) : V4 m c main_v8 i = BitVec.ofNat 32 (c + 3 : Fin 4).val := by
  rw [V4]
  after_reads_at
  simp only [id, Host.remui, Host.divui, constantI]
  revert c; decide +kernel

/-- The third remainder the host takes: the device 2 places on. -/
theorem V6_v10 (c : Dev nD) (i : S_.Idx) : V6 m c main_v10 i = BitVec.ofNat 32 (c + 2 : Fin 4).val := by
  rw [V6]
  after_reads_at
  simp only [id, Host.remui, Host.divui, constantI]
  revert c; decide +kernel

/-- The table is the four scalars side by side. -/
theorem V7_v15_eq (c : Dev nD) : (V7 m c main_v15 : S4.Idx → BitVec 32) =
    concatenate S4 0 [⟨S1, broadcastInDim S1 ![] bcast_S_S1 (V6 m c main_v4 : S_.Idx → BitVec 32)⟩,
      ⟨S1, broadcastInDim S1 ![] bcast_S_S1 (V6 m c main_v6 : S_.Idx → BitVec 32)⟩,
      ⟨S1, broadcastInDim S1 ![] bcast_S_S1 (V6 m c main_v8 : S_.Idx → BitVec 32)⟩,
      ⟨S1, broadcastInDim S1 ![] bcast_S_S1 (V6 m c main_v10 : S_.Idx → BitVec 32)⟩] concatenates_S1_S1_S1_S1_S4_d0 := by
  rw [V7]
  after_reads_simp
  simp only [Matrix.cons_val]
  rw [StableHlo.upto_last_write (i := 0) (r := main_v11) [main_v12, main_v13, main_v14] rfl rfl (by decide),
    StableHlo.upto_last_write (i := 1) (r := main_v12) [main_v13, main_v14] rfl rfl (by decide),
    StableHlo.upto_last_write (i := 2) (r := main_v13) [main_v14] rfl rfl (by decide),
    StableHlo.upto_last_write (i := 3) (r := main_v14) [] rfl rfl (by decide),
    StableHlo.unary_result, StableHlo.unary_result, StableHlo.unary_result, StableHlo.unary_result,
    StableHlo.upto_unwritten (r := main_v4) [] rfl (by decide), StableHlo.upto_unwritten (r := main_v6) [main_v11] rfl (by decide),
    StableHlo.upto_unwritten (r := main_v8) [main_v11, main_v12] rfl (by decide),
    StableHlo.upto_unwritten (r := main_v10) [main_v11, main_v12, main_v13] rfl (by decide)]

/-- Four scalars side by side, read at one place. -/
theorem side_by_side : ∀ (c : Dev nD) (i : S4.Idx),
    concatenate (α := BitVec 32) S4 0 [⟨S1, broadcastInDim S1 ![] bcast_S_S1 fun _ : S_.Idx => BitVec.ofNat 32 c.val⟩,
      ⟨S1, broadcastInDim S1 ![] bcast_S_S1 fun _ : S_.Idx => BitVec.ofNat 32 (c + 1 : Fin 4).val⟩,
      ⟨S1, broadcastInDim S1 ![] bcast_S_S1 fun _ : S_.Idx => BitVec.ofNat 32 (c + 3 : Fin 4).val⟩,
      ⟨S1, broadcastInDim S1 ![] bcast_S_S1 fun _ : S_.Idx => BitVec.ofNat 32 (c + 2 : Fin 4).val⟩] concatenates_S1_S1_S1_S1_S4_d0 i =
    BitVec.ofNat 32 (ord c (i 0)).val := by
  decide +kernel

/-- The table's entries: where core `c`'s four rounds take their rows from. -/
theorem V7_v15 (c : Dev nD) (i : S4.Idx) : V7 m c main_v15 i = BitVec.ofNat 32 (ord c (i 0)).val := by
  rw [V7_v15_eq, V6_of m c main_v4 (by decide), V5_of m c main_v4 (by decide), V4_of m c main_v4 (by decide),
    V3_of m c main_v4 (by decide), V2_of m c main_v4 (by decide), V6_of m c main_v6 (by decide),
    V5_of m c main_v6 (by decide), V4_of m c main_v6 (by decide), V3_of m c main_v6 (by decide),
    V6_of m c main_v8 (by decide), V5_of m c main_v8 (by decide)]
  rw [show (V1 m c main_v4 : S_.Idx → BitVec 32) = fun _ => BitVec.ofNat 32 c.val from funext (V1_v4 m c),
    show (V2 m c main_v6 : S_.Idx → BitVec 32) = fun _ => BitVec.ofNat 32 (c + 1 : Fin 4).val from funext (V2_v6 m c),
    show (V4 m c main_v8 : S_.Idx → BitVec 32) = fun _ => BitVec.ofNat 32 (c + 3 : Fin 4).val from funext (V4_v8 m c),
    show (V6 m c main_v10 : S_.Idx → BitVec 32) = fun _ => BitVec.ofNat 32 (c + 2 : Fin 4).val from funext (V6_v10 m c)]
  exact side_by_side c i

/-- The prefetched tables at the contents the host leaves. -/
def tb (c : Dev nD) : pre0.Contents (Elt F)
  | 0 => fun i : S4.Idx => BitVec.ofNat 32 (ord c (i 0)).val

theorem tb_eq (c : Dev nD) : (V7 m c main_v15 : S4.Idx → BitVec 32) = tb (F := F) c 0 := funext (V7_v15 m c)

/-- A scalar load of the table, at the place the rectangle names. -/
theorem tb_at (c : Dev nD) (k : Fin 4) (off : Fin 1 → Nat) (hoff : off = ![k.val]) (inb) (h1) :
    (tb (F := F) c).at 0 (Rect.unit (s := S4) off S1.size inb) h1 = BitVec.ofNat 32 (ord c k).val := by
  subst hoff
  show BitVec.ofNat 32 (ord c _).val = _
  congr 3

theorem toNat_small (x : Fin 4) : (BitVec.ofNat 32 x.val).toNat = x.val := by revert x; decide

theorem ord_zero (c : Dev nD) : ord c 0 = c := by revert c; decide

/-- The row window's block at any point is core `c`'s own block of rows. -/
theorem transform_1_tb (c : Dev nD) (i : grid0.Coords) :
    cc0_transform_1 inb_S4_S1_0 numel1_S1 (tb (F := F) c) i = ![c.val, 0] := by
  refine (congrArg (fun w : BitVec 32 => ![w.toNat, 0]) (tb_at (F := F) c 0 ![0] rfl inb_S4_S1_0 numel1_S1)).trans ?_
  simp only [toNat_small, ord_zero]

/-- The weight window's block at a point: the rows the round's device names, the point's columns. -/
theorem transform_2_tb (c : Dev nD) (i : grid0.Coords) :
    cc0_transform_2 k0_off1_inb numel1_S1 (tb (F := F) c) i = ![(ord c (i 0)).val, (i 1).val] := by
  refine (congrArg (fun w : BitVec 32 => ![w.toNat, (BitVec.ofNat 32 (i 1).val).toNat])
    (tb_at (F := F) c (i 0) (k0_off1 i) (k0_off1_eq i) (k0_off1_inb i) numel1_S1)).trans ?_
  simp only [toNat_small]
  rw [show (BitVec.ofNat 32 (i 1).val).toNat = (i 1).val from by revert i; decide +kernel]

/-- The table is admissible: every block it names lies inside its array. -/
theorem ok_tb (c : Dev nD) : ok0 (tb (F := F) c) := by
  refine ⟨fun i => ?_, fun i => ?_⟩
  · refine ⟨?_, .inl rfl⟩
    rw [transform_1_tb]; revert c; decide +kernel
  · refine ⟨?_, .inl rfl⟩
    rw [transform_2_tb]; revert c i; decide +kernel

/-- Device `c`'s admissible table contents. -/
def adm (c : Dev nD) : (pcfg0 (F := F)).Adm := ⟨tb c, ok_tb c⟩

/-- The device's number as the kernel reads it from the table. -/
abbrev wd (x : Fin 4) : BitVec 32 := BitVec.ofNat 32 x.val

theorem dev1_wd (c : Fin 4) : k0_dev1 (wd c) = (c + 1 : Fin 4).val := by revert c; decide +kernel
theorem dev2_wd (c : Fin 4) : k0_dev2 (wd c) = (c + 2 : Fin 4).val := by revert c; decide +kernel
theorem dev3_wd (c : Fin 4) : k0_dev3 (wd c) = (c + 3 : Fin 4).val := by revert c; decide +kernel
theorem dev4_wd (c : Fin 4) : k0_dev4 (wd c) = (c + 1 : Fin 4).val := by revert c; decide +kernel
theorem dev5_wd (c : Fin 4) : k0_dev5 (wd c) = (c + 2 : Fin 4).val := by revert c; decide +kernel
theorem dev6_wd (c : Fin 4) : k0_dev6 (wd c) = (c + 3 : Fin 4).val := by revert c; decide +kernel
theorem off2_wd (c : Fin 4) : k0_off2 (wd c) = ![c.val] := by revert c; decide +kernel
theorem off3_wd (c : Fin 4) : k0_off3 (wd c) = ![c.val, 0, 0] := by revert c; decide +kernel
theorem off4_wd (c : Fin 4) (d : Fin 4) : k0_off4 (wd c) (wd d) = ![(c + d : Fin 4).val * 1024, 0] := by
  revert c d; decide +kernel
theorem off5_wd (c : Fin 4) : k0_off5 (wd c) = ![c.val] := by revert c; decide +kernel
theorem off6_wd (c : Fin 4) : k0_off6 (wd c) = ![c.val, 0, 0] := by revert c; decide +kernel
theorem off9_wd (c : Fin 4) : k0_off9 (wd c) = ![c.val, 0, 0] := by revert c; decide +kernel
theorem off11_wd (c : Fin 4) : k0_off11 (wd c) = ![c.val, 0, 0] := by revert c; decide +kernel
theorem off12_wd (c : Fin 4) (d : Fin 4) : k0_off12 (wd c) (wd d) = ![(c + d : Fin 4).val * 1024, 0] := by
  revert c d; decide +kernel
theorem off13_wd (c : Fin 4) : k0_off13 (wd c) = ![c.val, 0, 0] := by revert c; decide +kernel

/-- The checks the kernel states of the device's number hold. -/
theorem chk1_wd (i : grid0.Coords) (c : Fin 4) : k0_chk1 i (wd c) := by
  refine ⟨fun _ => ?_, fun _ => ?_, fun _ => ?_, fun _ => ?_, fun _ => ?_, fun _ => ?_, fun _ => ?_, fun _ => ?_,
    fun _ => ?_, fun _ => ?_, fun _ => ?_⟩ <;> (revert c; decide +kernel)

/-- The checks the kernel states of the round's device number hold. -/
theorem chk2_wd (i : grid0.Coords) (c : Fin 4) : k0_chk2 i (wd c) := by
  refine ⟨fun _ => ?_, fun _ => ?_, fun _ => ?_, fun _ => ?_⟩ <;> (revert c; decide +kernel)

/-! The conditions of the body, over the grid point. -/

theorem cond1_iff : ∀ i : grid0.Coords, k0_cond1 i = 1#1 ↔ (i 0).val = 0 ∧ (i 1).val = 0 := by decide +kernel
theorem cond2_iff : ∀ i : grid0.Coords, k0_cond2 i = 1#1 ↔ 0 < (i 0).val ∧ (i 1).val = 0 := by decide +kernel
theorem cond3_iff : ∀ i : grid0.Coords, k0_cond3 i = 1#1 ↔ (i 0).val = 0 := by decide +kernel
theorem cond4_iff : ∀ i : grid0.Coords, k0_cond4 i = 1#1 ↔ 0 < (i 0).val ∧ (i 0).val < 3 := by decide +kernel
theorem cond5_iff : ∀ i : grid0.Coords, k0_cond5 i = 1#1 ↔ (i 0).val = 3 := by decide +kernel
theorem cond6_iff : ∀ i : grid0.Coords, k0_cond6 i = 1#1 ↔ (i 0).val = 3 ∧ (i 1).val = 15 := by decide +kernel

/-- The grid's point `t`: round `t / 16`, column tile `t % 16`. -/
theorem coords_eq : ∀ t : Fin grid0.N, (grid0.coords t 0).val = t.val / 16 ∧ (grid0.coords t 1).val = t.val % 16 := by
  decide +kernel

end Cert.KernelIdeal.Pf

end
-- ==== Proof.Places.lean ====
/- Where things lie: the receive slots, the bands of rows, the semaphore cells, and what a landed transfer leaves. -/
module

public import proofs.«01_k».proof.Proof.Table
public import Idealize.ShloMosaic.Lib.Pipeline.Regions
public import Idealize.ShloMosaic.Lib.Pipeline.Kit
public import Idealize.ShloMosaic.Lib.Pipeline.Launch
public import Idealize.ShloMosaic.Lib.Rounds
public import Idealize.ShloMosaic.Lib.Ring
public import Idealize.ShloMosaic.Lib.Tactic
public import Idealize.ShloMosaic.Lib.Pointwise

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds algebra of the exchange, its payments named by the paying device; beside it the pipeline's own. -/
abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The places -/

/-- The device `d + 1` places on from `c`. -/
abbrev peer (c : Dev nD) (d : Fin 3) : Dev nD := (c + d.succ : Fin 4)

theorem slot_inb (s : Fin 4) : ∀ a, (![s.val, 0, 0] : Fin 3 → Nat) a + S1x1024x1024.size a ≤ S4x1024x1024.size a := by
  revert s; decide

theorem rows_inb (p : Fin 4) : ∀ a, (![p.val * 1024, 0] : Fin 2 → Nat) a + S1024x1024.size a ≤ S4096x1024.size a := by
  revert p; decide

/-- The receive buffer's slot for the rows that device `s` sends. -/
abbrev slotM (s : Fin 4) : Memref sig .tc .vmem S1024x1024 .f32 :=
  ((Memref.whole cc0_scratch0).slice (Rect.unit (s := S4x1024x1024) ![s.val, 0, 0] S1x1024x1024.size (slot_inb s)) (fun _ => rfl)).squeeze
    S1024x1024 Facts₀.squeezes_S1x1024x1024_S1024x1024

/-- The rows of a device's own array that device `p` is to receive. -/
abbrev rowsM (p : Fin 4) : Memref sig .tc .hbm S1024x1024 .f32 :=
  (Memref.whole main_arg0).slice (Rect.unit (s := S4096x1024) ![p.val * 1024, 0] S1024x1024.size (rows_inb p)) (fun _ => rfl)

abbrev barS : Sem sig := barrier0
abbrev sendS (d : Fin 3) : DmaSem sig := (⟨4 + d.val, by omega⟩ : Fin 11)
abbrev recvS (s : Fin 4) : DmaSem sig := (⟨7 + s.val, by omega⟩ : Fin 11)

abbrev barCell (c : Dev nD) : GSem nD τ sig := ((c : Thread nD τ), .reg barS)
abbrev sendCell (c : Dev nD) (d : Fin 3) : GSem nD τ sig := ((c : Thread nD τ), .dma (sendS d))
abbrev recvCell (c : Dev nD) (s : Fin 4) : GSem nD τ sig := ((c : Thread nD τ), .dma (recvS s))

/-- What one transfer of 1024 by 1024 elements counts on a semaphore. -/
def N : ℕ := (slotM 0).view.dmaCredit
theorem N_pos : 0 < N := View.dmaCredit_pos _ (by decide)
theorem slot_credit (s : Fin 4) : (slotM s).view.dmaCredit = N := rfl
theorem rows_credit (p : Fin 4) : (rowsM p).view.dmaCredit = N := by
  show sig.dmaCredit _ _ _ _ _ = sig.dmaCredit _ _ _ _ _
  rfl

theorem slot_set (s : Fin 4) : (slotM s).view.set
    = (Rect.unit (s := S4x1024x1024) ![s.val, 0, 0] S1x1024x1024.size (slot_inb s)).set := by
  rw [Memref.set_view_squeeze]
  exact View.set_slice_whole _ _

theorem rows_set (p : Fin 4) : (rowsM p).view.set
    = (Rect.unit (s := S4096x1024) ![p.val * 1024, 0] S1024x1024.size (rows_inb p)).set := View.set_slice_whole _ _

theorem slot_disjoint (s s' : Fin 4) (h : s ≠ s') : Disjoint (slotM s).view.set (slotM s').view.set := by
  rw [slot_set, slot_set]
  exact Ring.lead_disjoint (s := S4x1024x1024) 0 1 (fun b : Fin 4 => ![b.val, 0, 0]) S1x1024x1024.size slot_inb
    (fun b => (Nat.one_mul _).symm) rfl s s' h

/-- The four slots make up the receive buffer. -/
theorem slot_cover : Finset.univ.biUnion (β := S4x1024x1024.Idx) (fun s : Fin 4 => (slotM s).view.set) = Finset.univ := by
  rw [Finset.biUnion_congr rfl fun s _ => slot_set s]
  exact Ring.lead_cover (s := S4x1024x1024) 0 1 (fun b : Fin 4 => ![b.val, 0, 0]) S1x1024x1024.size slot_inb
    (fun b => (Nat.one_mul _).symm) (by decide) rfl (by decide) rfl

theorem rows_disjoint (s s' : Fin 4) (h : s ≠ s') : Disjoint (rowsM s).view.set (rowsM s').view.set := by
  rw [rows_set, rows_set]
  exact Ring.lead_disjoint (s := S4096x1024) 0 1024 (fun b : Fin 4 => ![b.val * 1024, 0]) S1024x1024.size rows_inb
    (fun b => Nat.mul_comm _ _) rfl s s' h

/-- The four bands of rows make up a device's array. -/
theorem rows_cover : Finset.univ.biUnion (β := S4096x1024.Idx) (fun s : Fin 4 => (rowsM s).view.set) = Finset.univ := by
  rw [Finset.biUnion_congr rfl fun s _ => rows_set s]
  exact Ring.lead_cover (s := S4096x1024) 0 1024 (fun b : Fin 4 => ![b.val * 1024, 0]) S1024x1024.size rows_inb
    (fun b => Nat.mul_comm _ _) (by decide) rfl (by decide) rfl

/-! ## What lands -/

variable (x : Dev nD → (main_arg0 : Ref sig .tc).ty.Contents (Elt F))

/-- The receive buffer of device `p` once everything has landed: slot `s` holds rows block `p` of device `s`'s array. -/
def landed (p : Dev nD) : (cc0_scratch0 : Ref sig .tc).ty.Contents (Elt F) := fun i : S4x1024x1024.Idx =>
  x (i 0) (ix2 (⟨p.val * 1024 + (i 1).val, by
    have h1 := p.isLt; have h2 : (i 1).val < 1024 := (i 1).isLt; change p.val < 4 at h1; omega⟩ : Fin 4096) (i 2 : Fin 1024) : S4096x1024.Idx)

/-- The squeezed slot's element at row `r` and column `k`. -/
theorem unsqueeze (y : S1024x1024.Idx) :
    (Shape.reshapeEquiv (Shape.Squeezes.numel_eq Facts₀.squeezes_S1x1024x1024_S1024x1024) y : S1x1024x1024.Idx)
      = ix3 (0 : Fin 1) (y 0 : Fin 1024) (y 1 : Fin 1024) := by
  pointwise

/-- The copy of rows block `p` of device `c`'s array into slot `c` leaves what `landed` names there. -/
theorem landed_at (c p : Dev nD) (fd : (cc0_scratch0 : Ref sig .tc).ty.Contents (Elt F)) (i : S4x1024x1024.Idx)
    (hi : i ∈ (slotM c).view.set) :
    (slotM c).view.write (Elt F) fd ((rowsM p).view.read (Elt F) (x c)) Finset.univ i = landed x p i := by
  obtain ⟨y, -, rfl⟩ := Finset.mem_map.mp hi
  refine (View.write_emb_of_mem (v := (slotM c).view) (Val := Elt F) fd _ (Finset.mem_univ y)).trans ?_
  have e0 : ((slotM c).view.emb y : S4x1024x1024.Idx) = ix3 (c : Fin 4) (y 0 : Fin 1024) (y 1 : Fin 1024) := by
    refine (congrArg (Rect.unit (s := S4x1024x1024) ![c.val, 0, 0] S1x1024x1024.size (slot_inb c)).emb (unsqueeze y)).trans ?_
    funext a
    fin_cases a <;> exact Fin.ext (by simp [Rect.emb, Rect.unit, ix3, LoadRect.idx])
  have e1 : ((rowsM p).view.emb y : S4096x1024.Idx) = ix2 (⟨p.val * 1024 + (y 0).val, by
      have h1 := p.isLt; have h2 : (y 0).val < 1024 := (y 0).isLt; change p.val < 4 at h1; omega⟩ : Fin 4096) (y 1 : Fin 1024) := by
    show (Rect.unit (s := S4096x1024) ![p.val * 1024, 0] S1024x1024.size (rows_inb p)).emb y = _
    funext a
    fin_cases a <;> exact Fin.ext (by simp [Rect.emb, Rect.unit, ix2, LoadRect.idx])
  unfold landed
  rw [e0]
  show x c ((rowsM p).view.emb y) = _
  rw [e1]
  rfl

end Cert.KernelIdeal.Pf

end
-- ==== Proof.Exchange.lean ====
/- The exchange between the devices: what each payment hands over, what is owed at launch, and the order of the waits. -/
module

public import proofs.«01_k».proof.Proof.Places

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F))

/-! ## What is held -/

/-- Slot `s` of device `c`'s receive buffer, at the contents `f`. -/
abbrev slotPts (c : Dev nD) (s : Fin 4) (f : (cc0_scratch0 : Ref sig .tc).ty.Contents (Elt F)) : sProp 𝕄 :=
  (slotM s).view.loc (c : Thread nD τ) ↦[(slotM s).view.set]{fullShare} f

/-- The rows of device `c`'s own array meant for device `p`, at half a share: the pipeline's first window keeps the other half. -/
abbrev rowsPts (c : Dev nD) (p : Fin 4) : sProp 𝕄 :=
  (rowsM p).view.loc (c : Thread nD τ) ↦[(rowsM p).view.set]{fullShare.right} x c

/-- Paid to device `c`'s barrier by device `p`: the slot of `p` that `c` fills, and that `p` waits for its first filling. -/
def barPay (c p : Dev nD) : sProp 𝕄 := iprop((∃ f, slotPts p c f) ∗ reached ER (recvCell p c) 0)
/-- Paid to device `c` by device `s`'s transfer: slot `s`, filled. -/
def recvPay (c : Dev nD) (s : Fin 4) : sProp 𝕄 := slotPts c s (landed x c)
/-- Paid to device `c` by its own transfer to `peer c d`: the rows it read. -/
def sendPay (c : Dev nD) (d : Fin 3) : sProp 𝕄 := rowsPts x c (peer c d)

/-! ## The schedule -/

/-- The slot a receive semaphore counts for, and the transfer a send semaphore counts for. -/
def slotOf (k : DmaSem sig) : Fin 4 := ⟨(k.val - 7) % 4, Nat.mod_lt _ (by decide)⟩
def legOf (k : DmaSem sig) : Fin 3 := ⟨(k.val - 4) % 3, Nat.mod_lt _ (by decide)⟩

theorem slotOf_recv (s : Fin 4) : slotOf (recvS s) = s := by revert s; decide
theorem legOf_send (d : Fin 3) : legOf (sendS d) = d := by revert d; decide

/-- One payment per other device on a barrier; one on every send cell; one on every receive cell but the device's own. -/
def dutiesOf (c : Dev nD) : SemLoc sig → Finset (Dev nD)
  | .reg k => if k = barS then Finset.univ.erase c else ∅
  | .dma k => if k.val < 4 then ∅ else if k.val < 7 then {0} else if slotOf k = c then ∅ else {0}

def amountOf : SemLoc sig → ℕ
  | .reg _ => 1
  | .dma _ => N

def payOf (c : Dev nD) (d : Dev nD) : SemLoc sig → sProp 𝕄
  | .reg _ => barPay c d
  | .dma k => if k.val < 7 then sendPay x c (legOf k) else recvPay x c (slotOf k)

/-- Every cell has one round. -/
def rd : Rounds.Schedule (GSem nD τ sig) (Dev nD) 𝕄 where
  duties g r := if r = 0 ∧ g.1.2 = .tc then dutiesOf g.1.1 g.2 else ∅
  unitless _ := False
  amount g _ _ := amountOf g.2
  payload g _ d := payOf x g.1.1 d g.2
  amount_pos g _ _ _ := by
    rcases g.2 with k | k
    · exact Nat.one_pos
    · exact N_pos

instance rd_storable (g : GSem nD τ sig) (r : ℕ) (d : Dev nD) :
    BI.Storable (upEmb : UEmb _ 𝕄) ((rd (F := F) x).payload g r d) := by
  show BI.Storable upEmb (payOf x g.1.1 d g.2)
  rcases g.2 with k | k
  · show BI.Storable upEmb (barPay g.1.1 d)
    unfold barPay; infer_instance
  · show BI.Storable upEmb (if k.val < 7 then sendPay x g.1.1 (legOf k) else recvPay x g.1.1 (slotOf k))
    unfold sendPay recvPay
    split <;> infer_instance

theorem duties_bar (c : Dev nD) : (rd (F := F) x).duties (barCell c) 0 = Finset.univ.erase c := by
  dsimp only [rd]; rw [if_pos ⟨rfl, rfl⟩]; show (if barS = barS then Finset.univ.erase c else (∅ : Finset (Dev nD))) = _; exact if_pos rfl
theorem duties_send (c : Dev nD) (d : Fin 3) : (rd (F := F) x).duties (sendCell c d) 0 = {0} := by
  dsimp only [rd]; rw [if_pos ⟨rfl, rfl⟩]; revert d; intro d
  show (if (sendS d).val < 4 then (∅ : Finset (Dev nD)) else if (sendS d).val < 7 then {0} else _) = {0}
  rw [if_neg (by simp), if_pos (by simp; omega)]
theorem duties_recv (c : Dev nD) (s : Fin 4) (h : s ≠ c) : (rd (F := F) x).duties (recvCell c s) 0 = {0} := by
  dsimp only [rd]; rw [if_pos ⟨rfl, rfl⟩]
  show (if (recvS s).val < 4 then (∅ : Finset (Dev nD)) else if (recvS s).val < 7 then {0} else if slotOf (recvS s) = c then ∅ else {0}) = {0}
  rw [if_neg (by simp; omega), if_neg (by simp), slotOf_recv, if_neg h]
theorem duties_later (g : GSem nD τ sig) : ∀ r, 1 ≤ r → (rd (F := F) x).duties g r = ∅ :=
  fun r hr => by dsimp only [rd]; exact if_neg fun h => by omega

theorem amount_bar (c d : Dev nD) : (rd (F := F) x).amount (barCell c) 0 d = 1 := rfl
theorem amount_send (c : Dev nD) (k : Fin 3) (d : Dev nD) : (rd (F := F) x).amount (sendCell c k) 0 d = N := rfl
theorem amount_recv (c : Dev nD) (s : Fin 4) (d : Dev nD) : (rd (F := F) x).amount (recvCell c s) 0 d = N := rfl

theorem payload_bar (c d : Dev nD) : (rd (F := F) x).payload (barCell c) 0 d = barPay c d := rfl
theorem payload_send (c : Dev nD) (k : Fin 3) (d : Dev nD) : (rd (F := F) x).payload (sendCell c k) 0 d = sendPay x c k := by
  show (if (sendS k).val < 7 then sendPay x c (legOf (sendS k)) else recvPay x c (slotOf (sendS k))) = _
  rw [if_pos (by simp; omega), legOf_send]
theorem payload_recv (c : Dev nD) (s : Fin 4) (d : Dev nD) : (rd (F := F) x).payload (recvCell c s) 0 d = recvPay x c s := by
  show (if (recvS s).val < 7 then sendPay x c (legOf (recvS s)) else recvPay x c (slotOf (recvS s))) = _
  rw [if_neg (by simp), slotOf_recv]

theorem expect_bar (c : Dev nD) : (rd (F := F) x).expect (barCell c) 0 = 3 := by
  unfold Schedule.expect Schedule.amountOf
  rw [duties_bar, Finset.sum_congr rfl fun d _ => amount_bar x c d]
  revert c; decide
theorem expect_send (c : Dev nD) (k : Fin 3) : (rd (F := F) x).expect (sendCell c k) 0 = N := by
  unfold Schedule.expect Schedule.amountOf; rw [duties_send, Finset.sum_singleton, amount_send]
theorem expect_recv (c : Dev nD) (s : Fin 4) (h : s ≠ c) : (rd (F := F) x).expect (recvCell c s) 0 = N := by
  unfold Schedule.expect Schedule.amountOf; rw [duties_recv x c s h, Finset.sum_singleton, amount_recv]

theorem others (c : Dev nD) : (Finset.univ.erase c : Finset (Dev nD)) = {peer c 0, peer c 1, peer c 2} := by revert c; decide

/-- A product over the other devices, device by device. -/
theorem bigSep_others (c : Dev nD) (Φ : Dev nD → sProp 𝕄) :
    bigSep (Finset.univ.erase c) Φ = iprop(Φ (peer c 0) ∗ Φ (peer c 1) ∗ Φ (peer c 2)) := by
  rw [others, bigSep_insert (by revert c; decide), bigSep_insert (by revert c; decide), bigSep_singleton]
  rfl

theorem rest_bar (c : Dev nD) : bigSep ((rd (F := F) x).duties (barCell c) 0 \ ∅) (fun u => (rd (F := F) x).payload (barCell c) 0 u)
    = iprop(barPay c (peer c 0) ∗ barPay c (peer c 1) ∗ barPay c (peer c 2)) := by
  rw [Finset.sdiff_empty, duties_bar, bigSep_others]; rfl
theorem rest_send (c : Dev nD) (k : Fin 3) : bigSep ((rd (F := F) x).duties (sendCell c k) 0 \ ∅) (fun u => (rd (F := F) x).payload (sendCell c k) 0 u)
    = sendPay x c k := by
  rw [Finset.sdiff_empty, duties_send, bigSep_singleton, payload_send]
theorem rest_recv (c : Dev nD) (s : Fin 4) (h : s ≠ c) :
    bigSep ((rd (F := F) x).duties (recvCell c s) 0 \ ∅) (fun u => (rd (F := F) x).payload (recvCell c s) 0 u) = recvPay x c s := by
  rw [Finset.sdiff_empty, duties_recv x c s h, bigSep_singleton, payload_recv]

/-! ## What is owed at launch, and the levels of the waits -/

abbrev owedRecv (c : Dev nD) (d : Fin 3) : CellTallies nD τ sig Unit := tallyAt (recvCell (peer c d) c) () N
abbrev owedBar (c : Dev nD) (d : Fin 3) : CellTallies nD τ sig Unit := tallyAt (barCell (peer c d)) () 1

/-- Three transfers. -/
def O₁ (c : Dev nD) : CellTallies nD τ sig Unit := 0 + owedRecv c 2 + owedRecv c 1 + owedRecv c 0
/-- Three transfers and three signals. -/
def O₀ (c : Dev nD) : CellTallies nD τ sig Unit := O₁ c + owedBar c 2 + owedBar c 1 + owedBar c 0

def L (g : GSem nD τ sig) : Finset Unit := if g.1.2 = .tc then {()} else ∅

/-- The staging and send cells lowest, then the barriers, then the receive cells. -/
def lvOf : SemLoc sig → ℕ
  | .reg _ => 1
  | .dma k => if k.val < 7 then 0 else 2

def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (s : Fin 4) (u : Unit) : lv (recvCell c s) u = 2 := by
  show (if (recvS s).val < 7 then 0 else 2) = 2
  rw [if_neg (by simp)]

theorem tally_pos {g g' : GSem nD τ sig} {u : Unit} {n : ℕ} (h : 0 < (tallyAt g () n : CellTallies nD τ sig Unit) g' u) : g' = g := by
  rw [tallyAt_apply] at h
  split at h
  · next hg => exact hg.1
  · exact absurd h (Nat.lt_irrefl 0)

/-- What is owed of transfers is owed to the peers' receive cells. -/
theorem O₁_pos {c : Dev nD} {g : GSem nD τ sig} {u : Unit} (h : 0 < O₁ c g u) : ∃ d, g = recvCell (peer c d) c := by
  unfold O₁ at h
  rw [zero_add, Pi.add_apply, Pi.add_apply, Finsupp.add_apply, Finsupp.add_apply] at h
  rcases Nat.add_pos_iff_pos_or_pos.mp h with h | h
  · rcases Nat.add_pos_iff_pos_or_pos.mp h with h | h
    · exact ⟨2, tally_pos h⟩
    · exact ⟨1, tally_pos h⟩
  · exact ⟨0, tally_pos h⟩

/-- What is owed at launch is owed to the peers' receive and barrier cells. -/
theorem O₀_pos {c : Dev nD} {g : GSem nD τ sig} {u : Unit} (h : 0 < O₀ c g u) :
    ∃ d, g = recvCell (peer c d) c ∨ g = barCell (peer c d) := by
  unfold O₀ at h
  rw [Pi.add_apply, Pi.add_apply, Pi.add_apply, Finsupp.add_apply, Finsupp.add_apply, Finsupp.add_apply] at h
  rcases Nat.add_pos_iff_pos_or_pos.mp h with h | h
  · rcases Nat.add_pos_iff_pos_or_pos.mp h with h | h
    · rcases Nat.add_pos_iff_pos_or_pos.mp h with h | h
      · obtain ⟨d, hd⟩ := O₁_pos h; exact ⟨d, .inl hd⟩
      · exact ⟨2, .inr (tally_pos h)⟩
    · exact ⟨1, .inr (tally_pos h)⟩
  · exact ⟨0, .inr (tally_pos h)⟩

/-- A device may wait at its barrier while it owes its transfers. -/
theorem mayWait_bar (c : Dev nD) : (levAts L lv : sProp 𝕄) ⊢ MayWait (c : Thread nD τ) (.reg barS) () (O₁ c) :=
  MayOwe.of_cut (L := L) (lev := lv) 1 (fun p hp => by rw [Finset.mem_singleton.mp hp, L_tc]; exact Finset.mem_singleton_self _)
    (fun g u hg => by obtain ⟨d, rfl⟩ := O₁_pos hg; rw [L_tc]; exact Finset.mem_singleton_self _)
    (fun p hp => by rw [Finset.mem_singleton.mp hp]; exact Nat.le_refl 1)
    (fun g u hg => by obtain ⟨d, rfl⟩ := O₁_pos hg; rw [lv_recv]; decide)

/-! ## The cells -/

def barEmb : Dev nD ↪ GSem nD τ sig := ⟨fun c => barCell c, fun _ _ h => congrArg (fun g : GSem nD τ sig => g.1.1) h⟩

/-- The call's own semaphores: three for sending, four for receiving. -/
abbrev osem (k : Fin 7) : SemLoc sig := .dma (⟨4 + k.val, by omega⟩ : Fin 11)
theorem osem_inj : Function.Injective osem := by decide

def scEmb : Dev nD × Fin 7 ↪ GSem nD τ sig :=
  ⟨fun ck => ((ck.1 : Thread nD τ), osem ck.2), fun _ _ h =>
    Prod.ext (congrArg (fun g : GSem nD τ sig => g.1.1) h) (osem_inj (congrArg Prod.snd h))⟩

/-- The barrier cells, live from launch; the send and receive cells, opened on entry. -/
abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem own_mem (c : Dev nD) (k : Fin 7) : ((c : Thread nD τ), osem k) ∈ (barCells ∪ scCells : Finset (GSem nD τ sig)) :=
  Finset.mem_union_right _ (Finset.mem_map_of_mem scEmb (Finset.mem_univ (c, k)))
theorem send_mem (c : Dev nD) (d : Fin 3) : sendCell c d ∈ (barCells ∪ scCells : Finset (GSem nD τ sig)) := own_mem c (d.castLE (by decide))
theorem recv_mem (c : Dev nD) (s : Fin 4) : recvCell c s ∈ (barCells ∪ scCells : Finset (GSem nD τ sig)) := by
  have h : ∀ s : Fin 4, osem (s.natAdd 3) = .dma (recvS s) := by decide
  have := own_mem c (s.natAdd 3); rw [h] at this; exact this

/-- What every device may consult: every cell's invariant, and that the barriers' only round is on. -/
def recs (κ : GSem nD τ sig → ℕ) : sProp 𝕄 :=
  iprop((bigSep (barCells ∪ scCells) fun g => cellInv ER (rd x) (κ g) g) ∗ bigSep barCells fun g => reached ER g 0)

instance recs_persistent (κ : GSem nD τ sig → ℕ) : BI.Persistent (recs x κ) := by unfold recs; infer_instance

theorem inv_at (κ : GSem nD τ sig → ℕ) {g : GSem nD τ sig} (hg : g ∈ (barCells ∪ scCells : Finset (GSem nD τ sig))) :
    recs x κ ⊢ cellInv ER (rd x) (κ g) g := by
  unfold recs
  iintro ⟨H, -⟩
  iapply (show (bigSep (barCells ∪ scCells) fun g => (cellInv ER (rd x) (κ g) g : sProp 𝕄)) ⊢ cellInv ER (rd x) (κ g) g from bigSep_elim hg)
  iexact H

theorem reached_bar (κ : GSem nD τ sig → ℕ) (c : Dev nD) : recs x κ ⊢ reached ER (barCell c) 0 := by
  unfold recs
  iintro ⟨-, H⟩
  iapply (show (bigSep barCells fun g => (reached ER g 0 : sProp 𝕄)) ⊢ reached ER (barCell c) 0 from
    bigSep_elim (Finset.mem_map_of_mem barEmb (Finset.mem_univ c)))
  iexact H

/-- Once its round is over a cell gives its counter back at zero. -/
theorem close (κ : ℕ) (g : GSem nD τ sig) :
    iprop(cellInv ER (rd x) κ g ∗ atPos ER g (0 + 1) ∅ 0) ⊢ (|={Set.univ}=> semVal g 0 : sProp 𝕄) :=
  Rounds.cell_close ER (rd x) (Set.mem_univ κ) id (duties_later x g)

abbrev 𝒱₀ : Variants := Variants.none

end Cert.KernelIdeal.Pf

end
-- ==== Proof.Steps.lean ====
/- The steps of the exchange, one rule per kind: the signal, the wait at the barrier, the transfer, and the waits for a landing and for the own transfer. -/
module

public import proofs.«01_k».proof.Proof.Exchange

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (K : GSem nD τ sig → ℕ)

theorem peer_ne (c : Dev nD) (d : Fin 3) : peer c d ≠ c := by revert c d; decide
theorem ne_peer (c : Dev nD) (d : Fin 3) : c ≠ peer c d := (peer_ne c d).symm

/-- What device `c` owes, whatever it has recorded. -/
def ow (c : Dev nD) (O : CellTallies nD τ sig Unit) : sProp 𝕄 := iprop(∃ W, owes (c : Thread nD τ) O W)

/-- What a signal to `peer c d` takes: its token, the slot that `peer c d` is to fill, and that the landing there is awaited. -/
def sigLeg (c : Dev nD) (d : Fin 3) : sProp 𝕄 :=
  iprop(dutyTok ER (barCell (peer c d)) 0 c ∗ (∃ f, slotPts c (peer c d) f) ∗ reached ER (recvCell c (peer c d)) 0)

/-- What a transfer to `peer c d` takes of its own: the rows, and the tokens of its two payments. -/
def sendLeg (c : Dev nD) (d : Fin 3) : sProp 𝕄 :=
  iprop(rowsPts x c (peer c d) ∗ dutyTok ER (sendCell c d) 0 0 ∗ reached ER (sendCell c d) 0 ∗ dutyTok ER (recvCell (peer c d) c) 0 0)

section Rules

variable {α : Type} {k : PUnit → Prog (TpuEff nD τ sig (Elt F) Λ₀ .tc) α} {Q : α → sProp (MT nD τ sig Unit (Elt F) ℕ UU ℕ)}

/-- A signal to `peer c d` hands over the slot that `peer c d` fills. -/
theorem step_signal (c : Dev nD) (d : Fin 3) (O : CellTallies nD τ sig Unit) {v : Dev nD} (hv : v = peer c d) {sm : Sem sig} (hs : sm = barS) :
    iprop(recs x K ∗ ow c (O + owedBar c d) ∗ sigLeg c d)
      ⊢ iprop((ow c O -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (Dev.tc v) sm (1#32 : BitVec 32).toInt) k) Q) := by
  subst hv hs
  rw [show (1#32 : BitVec 32).toInt = ((1 : ℕ) : Int) from rfl]
  unfold ow sigLeg
  iintro ⟨#HR, ⟨%W, HO⟩, Ht, Hs, Hr⟩ Hk
  iapply (Rounds.wp_signal 𝒱₀ ER (rd x) (c : Thread nD τ) none (dst := (peer c d : Thread nD τ)) (sem := barS) (r := 0) (d := c) (κ := K (barCell (peer c d)))
      (by rw [duties_bar]; exact Finset.mem_erase.mpr ⟨ne_peer c d, Finset.mem_univ _⟩) (amount_bar x (peer c d) c) () O rfl)
    $$ [HO Ht Hs Hr]
  · isplitr; · iapply (inv_at x K (bar_mem (peer c d))); iexact HR
    isplitl [HO]; · iexact HO
    isplitl [Ht]; · iexact Ht
    isplitl [Hs Hr]
    · rw [payload_bar]; unfold barPay
      isplitl [Hs] <;> iassumption
    · iapply (reached_bar x K (peer c d)); iexact HR
  iintro HO
  iapply Hk
  iexists W; iexact HO

/-- The wait at the barrier brings the slots of the three peers that `c` fills, and the barrier's counter back at zero. -/
theorem step_barrier (c : Dev nD) {sm : Sem sig} (hs : sm = barS) :
    iprop(recs x K ∗ ow c (O₁ c) ∗ levAts L lv ∗ cred (tallyAt (barCell c) () 3) ∗ atPos ER (barCell c) 0 ∅ 0)
      ⊢ iprop((ow c (O₁ c) ∗ semVal (barCell c) 0 ∗ barPay c (peer c 0) ∗ barPay c (peer c 1) ∗ barPay c (peer c 2)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait sm (3#32 : BitVec 32).toInt) k) Q) := by
  subst hs
  rw [show (3#32 : BitVec 32).toInt = ((3 : ℕ) : Int) from rfl]
  unfold ow
  iintro ⟨#HR, ⟨%W, HO⟩, Hl, Hc, Ha⟩ Hk
  iapply (Rounds.wp_wait_rest_token 𝒱₀ ER (rd x) (c : Thread nD τ) none (κ := K (barCell c))
      (wpE_semWait_eq 𝒱₀ (c : Thread nD τ) none Set.univ) (Set.mem_univ _) () (O := O₁ c) (W := W) (R := 0) (m := 0) (T := ∅)
      ((Nat.zero_add 3).trans (expect_bar x c).symm)) $$ [HO Hl Hc Ha]
  · isplitr; · iapply (inv_at x K (bar_mem c)); iexact HR
    isplitl [Hc]; · iexact Hc
    isplitl [HO]; · iexact HO
    isplitl [Hl]; · iapply (mayWait_bar c); iexact Hl
    iexact Ha
  iintro ⟨HO, Ha, -, Hp⟩
  ihave Hp := (Entails.of_eq (rest_bar x c)) $$ Hp
  imod (close x (K (barCell c)) (barCell c)) $$ [Ha] with Hz
  · isplitr; · iapply (inv_at x K (bar_mem c)); iexact HR
    iexact Ha
  iapply Hk
  isplitl [HO]; · iexists _; iexact HO
  isplitl [Hz] <;> iassumption

/-- A transfer to `peer c d` fills the slot it was given there with the rows it reads. -/
theorem step_send (c : Dev nD) (d : Fin 3) (O : CellTallies nD τ sig Unit) {v : Dev nD} (hv : v = peer c d)
    {src : Memref sig .tc .hbm S1024x1024 .f32} (hsrc : src = rowsM (peer c d)) {dst : Memref sig .tc .vmem S1024x1024 .f32} (hdst : dst = slotM c)
    {sS sR : DmaSem sig} (hsS : sS = sendS d) (hsR : sR = recvS c) {hsc} {w₁ : src.view.WordExact} {w₂ : dst.view.WordExact} {hsem} :
    iprop(recs x K ∗ ow c (O + owedRecv c d) ∗ sendLeg x c d ∗ barPay c (peer c d))
      ⊢ iprop((cred (tallyAt (sendCell c d) () N) ∗ ow c O -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma src (.remote (Dev.tc v) dst (.dma sS) hsc) (.dma sR) w₁ w₂ hsem) k) Q) := by
  subst hv hsrc hdst hsS hsR
  unfold ow sendLeg barPay
  iintro ⟨#HR, ⟨%W, HO⟩, ⟨Hx, HtS, HrS, HtR⟩, ⟨%fd, Hs⟩, HrR⟩ Hk
  iapply (Rounds.wp_send_pointsTo 𝒱₀ ER (rd x) (c : Thread nD τ) none (c' := (peer c d : Thread nD τ)) (src := rowsM (peer c d)) (dst := slotM c)
      (sS := .dma (sendS d)) (sem := .dma (recvS c)) (q := fullShare.right) (fs := x c) (κ₁ := K (sendCell c d)) (κ₂ := K (recvCell (peer c d) c))
      (r₁ := 0) (r₂ := 0) (d₁ := 0) (d₂ := 0) (fd := fd)
      (by rw [duties_send]; exact Finset.mem_singleton_self _) (by rw [duties_recv x _ _ (ne_peer c d)]; exact Finset.mem_singleton_self _)
      () () N (slot_credit c) (amount_send x c d 0) (amount_recv x (peer c d) c 0) O rfl (W := W)
      (by rw [payload_send]; exact BI.Entails.refl _)
      (by rw [payload_recv]; exact Entails.of_eq (pointsTo_congr fun i hi => landed_at x c (peer c d) fd i hi))) $$ [Hx Hs HO HtS HrS HtR HrR]
  · isplitr; · iapply (inv_at x K (send_mem c d)); iexact HR
    isplitr; · iapply (inv_at x K (recv_mem (peer c d) c)); iexact HR
    isplitl [Hx]; · iexact Hx
    isplitl [Hs]; · iexact Hs
    isplitl [HO]; · iexact HO
    isplitl [HtS]; · iexact HtS
    isplitl [HrS]; · iexact HrS
    isplitl [HtR] <;> iassumption
  iintro ⟨Hc, HO⟩
  iapply Hk
  isplitl [Hc]; · iexact Hc
  iexists W; iexact HO

/-- The wait for device `s`'s rows brings slot `s` filled, and the cell's counter back at zero. -/
theorem step_land (c : Dev nD) (s : Fin 4) (hsc : s ≠ c) {sm : DmaSem sig} (hsm : sm = recvS s)
    {src dst : Memref sig .tc .vmem S1024x1024 .f32} (hdst : dst = slotM s) {w₁ : src.view.WordExact} {w₂ : dst.view.WordExact} :
    iprop(recs x K ∗ ow c 0 ∗ cred (tallyAt (recvCell c s) () N) ∗ atPos ER (recvCell c s) 0 ∅ 0)
      ⊢ iprop((ow c 0 ∗ semVal (recvCell c s) 0 ∗ slotPts c s (landed x c) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst w₁ w₂) k) Q) := by
  subst hsm hdst
  unfold ow
  iintro ⟨#HR, ⟨%W, HO⟩, Hc, Ha⟩ Hk
  iapply (Rounds.wp_wait_rest_token 𝒱₀ ER (rd x) (c : Thread nD τ) none (κ := K (recvCell c s))
      (k' := N) (fun Kt => (wpE_waitDma2_eq 𝒱₀ (c : Thread nD τ) none Set.univ Kt).trans (by rw [slot_credit])) (Set.mem_univ _) () (O := 0) (W := W) (R := 0) (m := 0) (T := ∅)
      ((Nat.zero_add N).trans (expect_recv x c s hsc).symm)) $$ [HO Hc Ha]
  · isplitr; · iapply (inv_at x K (recv_mem c s)); iexact HR
    isplitl [Hc]; · iexact Hc
    isplitl [HO]; · iexact HO
    isplitr; · rw [MayWait_zero]; iempintro
    iexact Ha
  iintro ⟨HO, Ha, -, Hp⟩
  ihave Hp := (Entails.of_eq (rest_recv x c s hsc)) $$ Hp
  imod (close x (K (recvCell c s)) (recvCell c s)) $$ [Ha] with Hz
  · isplitr; · iapply (inv_at x K (recv_mem c s)); iexact HR
    iexact Ha
  iapply Hk
  isplitl [HO]; · iexists _; iexact HO
  isplitl [Hz]; · iexact Hz
  unfold recvPay; iexact Hp

/-- The wait for the own transfer to `peer c d` brings the rows it read, and the cell's counter back at zero. -/
theorem step_sent (c : Dev nD) (d : Fin 3) {sm : DmaSem sig} (hsm : sm = sendS d)
    {src : Memref sig .tc .vmem S1024x1024 .f32} {dst : Memref sig .tc .hbm S1024x1024 .f32} {p : Fin 4} (hdst : dst = rowsM p)
    {w₁ : src.view.WordExact} {w₂ : dst.view.WordExact} :
    iprop(recs x K ∗ ow c 0 ∗ cred (tallyAt (sendCell c d) () N) ∗ atPos ER (sendCell c d) 0 ∅ 0)
      ⊢ iprop((ow c 0 ∗ semVal (sendCell c d) 0 ∗ rowsPts x c (peer c d) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst w₁ w₂) k) Q) := by
  subst hsm hdst
  unfold ow
  iintro ⟨#HR, ⟨%W, HO⟩, Hc, Ha⟩ Hk
  iapply (Rounds.wp_wait_rest_token 𝒱₀ ER (rd x) (c : Thread nD τ) none (κ := K (sendCell c d))
      (k' := N) (fun Kt => (wpE_waitDma2_eq 𝒱₀ (c : Thread nD τ) none Set.univ Kt).trans (by rw [rows_credit])) (Set.mem_univ _) () (O := 0) (W := W) (R := 0) (m := 0) (T := ∅)
      ((Nat.zero_add N).trans (expect_send x c d).symm)) $$ [HO Hc Ha]
  · isplitr; · iapply (inv_at x K (send_mem c d)); iexact HR
    isplitl [Hc]; · iexact Hc
    isplitl [HO]; · iexact HO
    isplitr; · rw [MayWait_zero]; iempintro
    iexact Ha
  iintro ⟨HO, Ha, -, Hp⟩
  ihave Hp := (Entails.of_eq (rest_send x c d)) $$ Hp
  imod (close x (K (sendCell c d)) (sendCell c d)) $$ [Ha] with Hz
  · isplitr; · iapply (inv_at x K (send_mem c d)); iexact HR
    iexact Ha
  iapply Hk
  isplitl [HO]; · iexists _; iexact HO
  isplitl [Hz]; · iexact Hz
  unfold sendPay; iexact Hp

end Rules

end Cert.KernelIdeal.Pf

end
-- ==== Proof.Tiles.lean ====
/- What the output tiles hold, round by round, and how a load and a store of a staging buffer read. -/
module

public import proofs.«01_k».proof.Proof.Steps
public import proofs.«01_k».proof.Proof.Gen.KernelIdeal.Skeleton

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The blocks -/

/-- Device `c`'s own block of its rows: rows `1024 c` to `1024 c + 1023`. -/
def xb (x : (main_arg0 : Ref sig .tc).ty.Contents (Elt F)) (c : Fin 4) : S1024x1024.Idx → Elt F .f32 := fun y =>
  x (ix2 (⟨c.val * 1024 + (y 0).val, by have h1 := c.isLt; have h2 : (y 0).val < 1024 := (y 0).isLt; omega⟩ : Fin 4096) (y 1 : Fin 1024) : S4096x1024.Idx)

/-- The weight's block of rows block `s` and column tile `n`. -/
def wb (w : (main_arg1 : Ref sig .tc).ty.Contents (Elt F)) (s : Fin 4) (n : Fin 16) : S1024x512.Idx → Elt F .f32 := fun y =>
  w (ix2 (⟨s.val * 1024 + (y 0).val, by have h1 := s.isLt; have h2 : (y 0).val < 1024 := (y 0).isLt; omega⟩ : Fin 4096)
    (⟨n.val * 512 + (y 1).val, by have h1 := n.isLt; have h2 : (y 1).val < 512 := (y 1).isLt; omega⟩ : Fin 8192) : S4096x8192.Idx)

/-- Column tile `n` of the output block. -/
def tileB (X : S1024x8192.Idx → Elt F .f32) (n : Fin 16) : S1024x512.Idx → Elt F .f32 := fun y =>
  X (ix2 (y 0 : Fin 1024) (⟨n.val * 512 + (y 1).val, by have h1 := n.isLt; have h2 : (y 1).val < 512 := (y 1).isLt; omega⟩ : Fin 8192) : S1024x8192.Idx)

/-- Slot `s` of a receive buffer, as it is loaded. -/
def slotB (f : (cc0_scratch0 : Ref sig .tc).ty.Contents (Elt F)) (s : Fin 4) : S1x1024x1024.Idx → Elt F .f32 := fun y =>
  f (ix3 s (y 1 : Fin 1024) (y 2 : Fin 1024) : S4x1024x1024.Idx)

section Acc

variable (x : Dev nD → (main_arg0 : Ref sig .tc).ty.Contents (Elt F)) (w : (main_arg1 : Ref sig .tc).ty.Contents (Elt F)) (c : Dev nD)

/-- What column tile `n` holds after round `j`. -/
def accB : ℕ → Fin 16 → S1024x512.Idx → Elt F .f32
  | 0, n => k0_pay1 (xb (x c) c) (wb w (ord c 0) n)
  | 1, n => k0_pay2 (accB 0 n) (slotB (landed x c) (ord c 1)) (wb w (ord c 1) n)
  | 2, n => k0_pay2 (accB 1 n) (slotB (landed x c) (ord c 2)) (wb w (ord c 2) n)
  | _ + 3, n => k0_pay3 (accB 2 n) (slotB (landed x c) (ord c 3)) (wb w (ord c 3) n)

/-- Before point `k` a tile that has been through rounds `0` to `p` holds what round `p` leaves. -/
def Inv2 (k : ℕ) (X : S1024x8192.Idx → Elt F .f32) : Prop :=
  ∀ (n : Fin 16) (p : ℕ), 16 * p + n.val < k → k ≤ 16 * (p + 1) + n.val → tileB X n = accB x w c p n

theorem inv2_zero (X : S1024x8192.Idx → Elt F .f32) : Inv2 x w c 0 X := fun _ _ h => absurd h (Nat.not_lt_zero _)

/-- At a point of a later round the point's tile holds what the round before left. -/
theorem inv2_tile {j : ℕ} {n : Fin 16} {X : S1024x8192.Idx → Elt F .f32} (h : Inv2 x w c (16 * (j + 1) + n.val) X) :
    tileB X n = accB x w c j n := h n j (by omega) (by omega)

/-- Writing the point's tile at the round's value moves on by a point. -/
theorem inv2_step {j : ℕ} {n : Fin 16} {X X' : S1024x8192.Idx → Elt F .f32} (h : Inv2 x w c (16 * j + n.val) X)
    (hn : tileB X' n = accB x w c j n) (ho : ∀ n' : Fin 16, n' ≠ n → tileB X' n' = tileB X n') : Inv2 x w c (16 * j + n.val + 1) X' := by
  intro n' p h1 h2
  by_cases hnn : n' = n
  · subst hnn
    obtain rfl : p = j := by omega
    exact hn
  · have : n'.val ≠ n.val := fun he => hnn (Fin.ext he)
    have h3 := n'.isLt; have h4 := n.isLt
    rw [ho n' hnn]
    exact h n' p (by omega) (by omega)

/-- At the end every tile holds what the last round leaves. -/
theorem inv2_last {X : S1024x8192.Idx → Elt F .f32} (h : Inv2 x w c 64 X) (n : Fin 16) : tileB X n = accB x w c 3 n :=
  h n 3 (by omega) (by omega)

end Acc

/-! ## Tiles as rectangles -/

/-- The rectangle of column tile `n` reads the tile. -/
theorem tile_read (X : S1024x8192.Idx → Elt F .f32) (n : Fin 16) (off : Fin 2 → Nat) (hoff : off = ![0, 512 * n.val]) (inb) :
    (fun j => X ((Rect.unit (s := S1024x8192) off S1024x512.size inb).toLoadRect.idx j)) = tileB X n := by
  subst hoff
  funext y
  refine congrArg X (funext fun a => Fin.ext ?_)
  match a with
  | 0 => show 0 + 1 * (y 0).val = (y 0).val; omega
  | 1 => show 512 * n.val + 1 * (y 1).val = n.val * 512 + (y 1).val; omega

/-- The rectangle of slot `s` reads the slot. -/
theorem slot_read (f : S4x1024x1024.Idx → Elt F .f32) (s : Fin 4) (off : Fin 3 → Nat) (hoff : off = ![s.val, 0, 0]) (inb) :
    (fun j => f ((Rect.unit (s := S4x1024x1024) off S1x1024x1024.size inb).toLoadRect.idx j)) = slotB f s := by
  subst hoff
  funext y
  refine congrArg f (funext fun a => Fin.ext ?_)
  match a with
  | 0 => show s.val + 1 * (y 0).val = s.val; have h : (y 0).val < 1 := (y 0).isLt; omega
  | 1 => show 0 + 1 * (y 1).val = (y 1).val; omega
  | 2 => show 0 + 1 * (y 2).val = (y 2).val; omega

/-- A rectangle that starts at zero and is as large as the block reads the block. -/
theorem whole_read {s : Shape} {α : Type} (X : s.Idx → α) (off : Fin s.rank → Nat) (hoff : ∀ a, off a = 0) (inb) :
    (fun j => X ((Rect.unit (s := s) off s.size inb).toLoadRect.idx j)) = X := by
  funext y
  refine congrArg X (funext fun a => Fin.ext ?_)
  show off a + 1 * (y a).val = (y a).val
  rw [hoff]; omega

/-- What a store of `v` at tile `n` leaves of the tiles. -/
theorem tile_store (X X' : S1024x8192.Idx → Elt F .f32) (n : Fin 16) (off : Fin 2 → Nat) (hoff : off = ![0, 512 * n.val]) (inb)
    (v : S1024x512.Idx → Elt F .f32)
    (h1 : ∀ j : S1024x512.Idx, X' ((Rect.unit (s := S1024x8192) off S1024x512.size inb).emb j) = v j)
    (h2 : ∀ i, i ∉ (Rect.unit (s := S1024x8192) off S1024x512.size inb).set → X' i = X i) :
    tileB X' n = v ∧ ∀ n' : Fin 16, n' ≠ n → tileB X' n' = tileB X n' := by
  subst hoff
  refine ⟨?_, fun n' hn => ?_⟩
  · funext y
    rw [← h1 y]
    refine congrArg X' (funext fun a => Fin.ext ?_)
    match a with
    | 0 => show (y 0).val = 0 + 1 * (y 0).val; omega
    | 1 => show n.val * 512 + (y 1).val = 512 * n.val + 1 * (y 1).val; omega
  · funext y
    refine h2 _ fun hm => hn ?_
    have h := (Rect.mem_set_unit.mp hm) 1
    have h' : 512 * n.val ≤ n'.val * 512 + (y 1).val ∧ n'.val * 512 + (y 1).val < 512 * n.val + 512 := h
    have hy : (y 1).val < 512 := (y 1).isLt
    exact Fin.ext (by omega)

/-! ## Loads and stores of a staging buffer -/

section Rules

variable {α : Type} {cs : CoreSpace} {s : Shape} {e : EltTy} {Q : α → sProp (MT nD τ sig Unit (Elt F) ℕ UU ℕ)}

/-- A load of a held staging buffer reads its contents through the rectangle. -/
theorem load_owns (c : Dev nD) {m : Memref sig .tc (.core cs) s e} {r : LoadRect s} {hl : m.view.LoadsAt r}
    {k : (r.shape.Idx → Elt F e) → Prog (TpuEff nD τ sig (Elt F) Λ₀ .tc) α} (q : PosShare TreeShare) (X : s.Idx → Elt F e) :
    (owns (c : Thread nD τ) m q X : sProp (MT nD τ sig Unit (Elt F) ℕ UU ℕ))
      ⊢ iprop((owns (c : Thread nD τ) m q X -∗ wp frame (wpE (defs₀ (F := F)) 𝒱₀ (c : Thread nD τ) none) Set.univ (k fun j => X (r.idx j)) Q)
          -∗ wp frame (wpE (defs₀ (F := F)) 𝒱₀ (c : Thread nD τ) none) Set.univ (.op (.load m r hl) k) Q) := by
  unfold owns
  iintro ⟨%f, %hf, H⟩ Hk
  iapply (wp_load 𝒱₀ (c : Thread nD τ) none Set.univ (m := m) (r := r) (S := m.view.set) (Finset.map_subset_map.mpr (Finset.subset_univ _))) $$ H
  iintro H
  rw [show m.view.readAt (Elt F) r f = fun j => X (r.idx j) from by subst hf; rfl]
  iapply Hk
  iexists f
  isplitr; · ipureintro; exact hf
  iexact H

/-- A store into a held staging buffer puts the payload under the rectangle and keeps the rest. -/
theorem store_owns (c : Dev nD) {m : Memref sig .tc (.core cs) s e} {r : Rect s} {v : r.shape.Idx → Elt F e}
    {hx : (m.access r).Stores Finset.univ} {hm : (Finset.univ : Finset r.shape.Idx) = Finset.univ ∨ ∀ a, r.stride a = 1}
    {k : PUnit → Prog (TpuEff nD τ sig (Elt F) Λ₀ .tc) α} (X : s.Idx → Elt F e) :
    (owns (c : Thread nD τ) m fullShare X : sProp (MT nD τ sig Unit (Elt F) ℕ UU ℕ))
      ⊢ iprop((∀ X' : s.Idx → Elt F e, ⌜(∀ j, X' (r.emb j) = v j) ∧ ∀ i, i ∉ r.set → X' i = X i⌝ -∗ owns (c : Thread nD τ) m fullShare X'
            -∗ wp frame (wpE (defs₀ (F := F)) 𝒱₀ (c : Thread nD τ) none) Set.univ (k ⟨⟩) Q)
          -∗ wp frame (wpE (defs₀ (F := F)) 𝒱₀ (c : Thread nD τ) none) Set.univ (.op (.store m r v Finset.univ hx hm) k) Q) := by
  unfold owns
  iintro ⟨%f, %hf, H⟩ Hk
  iapply (wp_store 𝒱₀ (c : Thread nD τ) none Set.univ (m := m) (r := r) (Mk := Finset.univ) (S := m.view.set) (by
    rw [View.setOn_univ, View.set_slice]; exact Finset.map_subset_map.mpr (Finset.subset_univ _))) $$ H
  iintro H
  iapply Hk $$ %(m.view.read (Elt F) ((m.access r).write (Elt F) f v Finset.univ)) []
  · ipureintro
    refine ⟨fun j => View.read_slice_write_emb r f v (Finset.mem_univ j), fun i hi => ?_⟩
    rw [← hf]
    exact View.read_slice_write_of_not_mem r f v _ (by rw [Rect.map_emb_univ]; exact hi)
  iexists _
  isplitr; · ipureintro; exact rfl
  iexact H

end Rules

end Cert.KernelIdeal.Pf

end
-- ==== Proof.Data.lean ====
/- The region: what the loop is told of each window, what the body holds between points, and what is owed. -/
module

public import proofs.«01_k».proof.Proof.Tiles

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (w : Dev nD → (main_arg1 : Ref sig .tc).ty.Contents (Elt F))
  (o : Dev nD → (main_v16 : Ref sig .tc).ty.Contents (Elt F))

/-! ## What the body holds between points -/

/-- One leg of the exchange before it begins, while its transfer is under way, and once it is over. -/
def leg0 (c : Dev nD) (d : Fin 3) : sProp 𝕄 := iprop(sigLeg c d ∗ sendLeg x c d ∗ atPos ER (sendCell c d) 0 ∅ 0)
def leg1 (c : Dev nD) (d : Fin 3) : sProp 𝕄 := iprop(cred (tallyAt (sendCell c d) () N) ∗ atPos ER (sendCell c d) 0 ∅ 0)
def leg2 (c : Dev nD) (d : Fin 3) : sProp 𝕄 := iprop(semVal (sendCell c d) 0 ∗ rowsPts x c (peer c d))

/-- Before the first point; at the points between; after the last. -/
def phA (c : Dev nD) : sProp 𝕄 :=
  iprop(levAts L lv ∗ cred (tallyAt (barCell c) () 3) ∗ atPos ER (barCell c) 0 ∅ 0 ∗ leg0 x c 0 ∗ leg0 x c 1 ∗ leg0 x c 2)
def phB (c : Dev nD) : sProp 𝕄 := iprop(semVal (barCell c) 0 ∗ leg1 c 0 ∗ leg1 c 1 ∗ leg1 c 2)
def phC (c : Dev nD) : sProp 𝕄 := iprop(semVal (barCell c) 0 ∗ leg2 x c 0 ∗ leg2 x c 1 ∗ leg2 x c 2)
def ph (c : Dev nD) (t : ℕ) : sProp 𝕄 := if t = 0 then phA x c else if t = 64 then phC x c else phB c

/-- Slot `s`, met in round `p`: awaited up to the round's first point, filled from then on. -/
def wait0 (c : Dev nD) (s : Fin 4) : sProp 𝕄 := iprop(cred (tallyAt (recvCell c s) () N) ∗ atPos ER (recvCell c s) 0 ∅ 0)
def wait1 (c : Dev nD) (s : Fin 4) : sProp 𝕄 := iprop(semVal (recvCell c s) 0 ∗ slotPts c s (landed x c))
def recvSt (c : Dev nD) (t : ℕ) (p : ℕ) (s : Fin 4) : sProp 𝕄 := if t ≤ 16 * p then wait0 c s else wait1 x c s

/-- The table of device numbers. -/
abbrev tbl (c : Dev nD) : sProp 𝕄 := (Memref.whole (main_v15 : Ref sig .tc)).view.loc (c : Thread nD τ) ↦{fullShare} (tb (F := F) c 0)

/-- What no point touches: the own slot, the own rows, and the own slot's counter. -/
def idle (c : Dev nD) : sProp 𝕄 := iprop((∃ f, slotPts c c f) ∗ rowsPts x c c ∗ semVal (recvCell c c) 0)

/-- What the body holds before point `t`. -/
def Phi (c : Dev nD) (t : ℕ) : sProp 𝕄 :=
  iprop(∃ K, recs x K ∗ tbl c ∗ idle x c ∗ ph x c t ∗ recvSt x c t 1 (ord c 1) ∗ recvSt x c t 2 (ord c 2) ∗ recvSt x c t 3 (ord c 3))

/-! ## The region's data -/

abbrev cfgs (c : Dev nD) : Pipeline.Cfg sig Λ₀ := Pipeline.pinD (pcfgs (F := F)) (fun c _ => adm c) c 0

/-- What the loop is told: the inputs hold their blocks, the output its tiles as far as they have come. -/
def rdat (c : Dev nD) : Pipeline.RDat τ (Elt F) Unit ℕ UU ℕ (cfgs (F := F) c) c where
  A := fun | 0 => x c | 1 => w c | 2 => o c | ⟨_ + 3, h⟩ => absurd h (Nat.not_lt.2 (Nat.le_add_left _ _))
  after := fun
    | 0 => fun _ _ X => X = xb (x c) c
    | 1 => fun t _ X => X = wb (w c) (ord c (grid0.coords t 0)) (grid0.coords t 1)
    | 2 => fun t _ X => Inv2 x (w c) c (t.val + 1) X
    | ⟨_ + 3, h⟩ => absurd h (Nat.not_lt.2 (Nat.le_add_left _ _))
  Φ := fun t => Phi x c t.val
  q := fun | 0 => fullShare.left | _ => fullShare
  owed := fun t => if t.val = 0 then O₀ c else 0

abbrev rdats : (p : Fin 1) → (c : Dev nD) → Pipeline.RDat τ (Elt F) Unit ℕ UU ℕ (Pipeline.pinD (pcfgs (F := F)) (fun c _ => adm c) c p) c
  | 0 => rdat x w o

/-! ## What the body finds -/

/-- The first window fetches device `c`'s own block of rows. -/
theorem fetched_0 (c : Dev nD) (t : Fin grid0.N) (d) : (rdat x w o c).fetched 0 t d = xb (x c) c := by
  refine funext fun (y : S1024x1024.Idx) => ?_
  refine congrArg (x c) (funext fun (a : Fin 2) => Fin.ext ?_)
  match a with
  | 0 =>
    show cc0_transform_1 inb_S4_S1_0 numel1_S1 (tb (F := F) c) (grid0.coords t) 0 * 1024 + 1 * (y 0).val = c.val * 1024 + (y 0).val
    rw [transform_1_tb]; simp
  | 1 =>
    show cc0_transform_1 inb_S4_S1_0 numel1_S1 (tb (F := F) c) (grid0.coords t) 1 * 1024 + 1 * (y 1).val = (y 1).val
    rw [transform_1_tb]; simp

/-- The second window fetches the weight's block of the round's rows and the point's columns. -/
theorem fetched_1 (c : Dev nD) (t : Fin grid0.N) (d) :
    (rdat x w o c).fetched 1 t d = wb (w c) (ord c (grid0.coords t 0)) (grid0.coords t 1) := by
  refine funext fun (y : S1024x512.Idx) => ?_
  refine congrArg (w c) (funext fun (a : Fin 2) => Fin.ext ?_)
  match a with
  | 0 =>
    show cc0_transform_2 k0_off1_inb numel1_S1 (tb (F := F) c) (grid0.coords t) 0 * 1024 + 1 * (y 0).val = (ord c (grid0.coords t 0)).val * 1024 + (y 0).val
    rw [transform_2_tb]; simp
  | 1 =>
    show cc0_transform_2 k0_off1_inb numel1_S1 (tb (F := F) c) (grid0.coords t) 1 * 512 + 1 * (y 1).val = (grid0.coords t 1).val * 512 + (y 1).val
    rw [transform_2_tb]; simp

theorem ord_inj : ∀ c : Dev nD, ∀ a b : Fin 4, ord c a = ord c b → a = b := by decide

/-- Two points next to each other differ in round or in tile. -/
theorem index1_ne (c : Dev nD) : ∀ t t' : Fin grid0.N, t ≠ t' →
    (![(ord c (grid0.coords t 0)).val, (grid0.coords t 1).val] : Fin 2 → Nat) ≠ ![(ord c (grid0.coords t' 0)).val, (grid0.coords t' 1).val] := by
  intro t t' h he
  have h0 : (ord c (grid0.coords t 0)).val = (ord c (grid0.coords t' 0)).val := congrFun he 0
  have h1 : (grid0.coords t 1).val = (grid0.coords t' 1).val := congrFun he 1
  have h2 := congrArg Fin.val (ord_inj c _ _ (Fin.ext h0))
  have ht := coords_eq t; have ht' := coords_eq t'
  exact h (Fin.ext (by omega))

theorem fetch_zero (c : Dev nD) (v : Fin 3) (hv : v ≠ 2) (t : Fin grid0.N) (ht : t.val = 0) : ((cfgs (F := F) c).win v).fetch t = true := by
  unfold Pipeline.Window.fetch
  have ho : ((cfgs (F := F) c).win v).isOut = false := by revert v; intro v; fin_cases v <;> first | (intro _; rfl) | (intro h; exact absurd rfl h)
  rw [ho]; simp [ht]

theorem fetch_1 (c : Dev nD) (t : Fin grid0.N) : ((cfgs (F := F) c).win 1).fetch t = true := by
  by_cases ht : t.val = 0
  · exact fetch_zero c 1 (by decide) t ht
  unfold Pipeline.Window.fetch
  have hne : ((cfgs (F := F) c).win 1).index t ≠ ((cfgs (F := F) c).win 1).index ⟨t.val - 1, lt_of_le_of_lt (Nat.sub_le _ _) t.isLt⟩ := by
    show cc0_transform_2 k0_off1_inb numel1_S1 (tb (F := F) c) (grid0.coords t) ≠ cc0_transform_2 k0_off1_inb numel1_S1 (tb (F := F) c) (grid0.coords _)
    rw [transform_2_tb, transform_2_tb]
    exact index1_ne c _ _ fun h => by have := congrArg Fin.val h; simp at this; omega
  have ho : ((cfgs (F := F) c).win 1).isOut = false := rfl
  rw [ho]
  simp only [Bool.not_false, Bool.true_and, Bool.or_eq_true, decide_eq_true_eq]
  exact Or.inr ⟨Nat.pos_of_ne_zero ht, hne⟩

/-- The body finds the first window at its block, -/
theorem finds_0 (c : Dev nD) (t : Fin grid0.N) (Y) (h : (rdat x w o c).Finds 0 t Y) : Y = xb (x c) c := by
  by_cases hf : ((cfgs (F := F) c).win 0).fetch t = true
  · obtain ⟨d, rfl⟩ := ((rdat x w o c).finds_of_fetch hf Y).mp h
    exact fetched_0 x w o c t d
  · have ht : t.val ≠ 0 := fun ht => hf (fetch_zero c 0 (by decide) t ht)
    rcases ((rdat x w o c).finds_of_pos (by simpa using hf) ht Y).mp h with h | ⟨_, _, h⟩
    · exact absurd h (by unfold Pipeline.Window.flush; rw [show ((cfgs (F := F) c).win 0).isOut = false from rfl]; simp)
    · exact h

/-- the second at the point's, -/
theorem finds_1 (c : Dev nD) (t : Fin grid0.N) (Y) (h : (rdat x w o c).Finds 1 t Y) : Y = wb (w c) (ord c (grid0.coords t 0)) (grid0.coords t 1) := by
  obtain ⟨d, rfl⟩ := ((rdat x w o c).finds_of_fetch (fetch_1 c t) Y).mp h
  exact fetched_1 x w o c t d

/-- and the output as far as the points before have brought it. -/
theorem finds_2 (c : Dev nD) (t : Fin grid0.N) (Y) (h : (rdat x w o c).Finds 2 t Y) : Inv2 x (w c) c t.val Y := by
  have ho : ((cfgs (F := F) c).win 2).isOut = true := rfl
  have hf : ((cfgs (F := F) c).win 2).fetch t = false := by unfold Pipeline.Window.fetch; rw [ho]; rfl
  by_cases ht : t.val = 0
  · rw [ht]; exact inv2_zero x (w c) c Y
  · rcases ((rdat x w o c).finds_of_pos hf ht Y).mp h with h | ⟨_, _, h⟩
    · refine absurd h ?_
      have hN : (cfgs (F := F) c).grid.N = 64 := N_0
      have : t.val < 64 := lt_of_lt_of_eq t.isLt N_0
      unfold Pipeline.Window.flush
      rw [ho]
      simp only [Bool.true_and, Bool.or_eq_true, decide_eq_true_eq, not_or]
      refine ⟨fun he => by have : t.val - 1 + 1 = 64 := he.trans N_0; omega, ?_⟩
      rintro ⟨_, hne⟩
      exact hne rfl
    · have h' : Inv2 x (w c) c (t.val - 1 + 1) Y := h
      rwa [Nat.sub_add_cancel (Nat.pos_of_ne_zero ht)] at h'

end Cert.KernelIdeal.Pf

end
-- ==== Proof.Open.lean ====
/- What the body opens with: two loads of the table, and the operands by name. -/
module

public import proofs.«01_k».proof.Proof.Data

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (K : GSem nD τ sig → ℕ)

/-! ## Operands by name -/

theorem slotM_eq (s : Fin 4) (off : Fin 3 → Nat) (hoff : off = ![s.val, 0, 0]) (inb hs) :
    (((Memref.whole cc0_scratch0 : Memref sig .tc .vmem S4x1024x1024 .f32).slice (Rect.unit (s := S4x1024x1024) off S1x1024x1024.size inb) hs).squeeze
      S1024x1024 squeezes_S1x1024x1024_S1024x1024) = slotM s := by subst hoff; rfl

theorem rowsM_eq (p : Fin 4) (off : Fin 2 → Nat) (hoff : off = ![p.val * 1024, 0]) (inb hs) :
    ((Memref.whole main_arg0 : Memref sig .tc .hbm S4096x1024 .f32).slice (Rect.unit (s := S4096x1024) off S1024x1024.size inb) hs) = rowsM p := by
  subst hoff; rfl

theorem recvS_eq (s : Fin 4) (off : Fin 1 → Nat) (hoff : off = ![s.val]) (inb) :
    ((cc0_scratch2.slice (Rect.unit (s := S4) off S1.size inb)).squeeze S_ squeezes_S1_S_).sem = recvS s := by
  subst hoff; revert s; decide

theorem sendS_eq (d : Fin 3) (inb) :
    ((cc0_scratch1.slice (Rect.unit (s := S3) ![d.val] S1.size inb)).squeeze S_ squeezes_S1_S_).sem = sendS d := by
  revert d; decide

theorem barS_eq : (SemArray.scalar (sig.barrier 0 rfl) : Sems sig S_).sem = barS := rfl

section Rules

variable {α : Type} {Q : α → sProp (MT nD τ sig Unit (Elt F) ℕ UU ℕ)}

/-- A load of the table's entry `k`. -/
theorem load_table (c : Dev nD) (k : Fin 4) {off : Fin 1 → Nat} (hoff : off = ![k.val]) {inb} {hl}
    {kk : (S1.Idx → Elt F .i32) → Prog (TpuEff nD τ sig (Elt F) Λ₀ .tc) α} :
    (tbl c : sProp (MT nD τ sig Unit (Elt F) ℕ UU ℕ))
      ⊢ iprop((tbl c -∗ wp frame (wpE (defs₀ (F := F)) 𝒱₀ (c : Thread nD τ) none) Set.univ (kk fun _ => wd (ord c k)) Q)
          -∗ wp frame (wpE (defs₀ (F := F)) 𝒱₀ (c : Thread nD τ) none) Set.univ
            (.op (.load (Memref.whole main_v15 : Memref sig .tc .smem S4 .i32) (Rect.unit (s := S4) off S1.size inb).toLoadRect hl) kk) Q) := by
  subst hoff
  have hv : (Memref.whole main_v15 : Memref sig .tc .smem S4 .i32).view.readAt (Elt F) (Rect.unit (s := S4) ![k.val] S1.size inb).toLoadRect (tb (F := F) c 0)
      = fun _ => wd (ord c k) := by
    funext y
    show BitVec.ofNat 32 (ord c _).val = _
    refine congrArg (fun z : Fin 4 => BitVec.ofNat 32 (ord c z).val) (Fin.ext ?_)
    show k.val + 1 * (y 0).val = k.val
    have : (y 0).val < 1 := (y 0).isLt
    omega
  iintro H Hk
  iapply (wp_load 𝒱₀ (c : Thread nD τ) none Set.univ (m := (Memref.whole main_v15 : Memref sig .tc .smem S4 .i32)) (q := fullShare) (f := tb (F := F) c 0) (S := Finset.univ) (Finset.subset_univ _)) $$ H
  iintro H
  rw [hv]
  iapply Hk; iexact H

/-- A load of slot `s` of the receive buffer. -/
theorem load_slot (c : Dev nD) (s : Fin 4) (f) {off : Fin 3 → Nat} (hoff : off = ![s.val, 0, 0]) {inb} {hl}
    {kk : (S1x1024x1024.Idx → Elt F .f32) → Prog (TpuEff nD τ sig (Elt F) Λ₀ .tc) α} :
    (slotPts c s f : sProp (MT nD τ sig Unit (Elt F) ℕ UU ℕ))
      ⊢ iprop((slotPts c s f -∗ wp frame (wpE (defs₀ (F := F)) 𝒱₀ (c : Thread nD τ) none) Set.univ (kk (slotB f s)) Q)
          -∗ wp frame (wpE (defs₀ (F := F)) 𝒱₀ (c : Thread nD τ) none) Set.univ
            (.op (.load (Memref.whole cc0_scratch0 : Memref sig .tc .vmem S4x1024x1024 .f32) (Rect.unit (s := S4x1024x1024) off S1x1024x1024.size inb).toLoadRect hl) kk) Q) := by
  have hv := slot_read (F := F) f s off hoff inb
  subst hoff
  iintro H Hk
  iapply (wp_load 𝒱₀ (c : Thread nD τ) none Set.univ (m := (Memref.whole cc0_scratch0 : Memref sig .tc .vmem S4x1024x1024 .f32)) (q := fullShare) (f := f) (S := (slotM s).view.set) (by rw [slot_set]; exact (Finset.map_refl (s := _)).le)) $$ H
  iintro H
  rw [show (Memref.whole cc0_scratch0 : Memref sig .tc .vmem S4x1024x1024 .f32).view.readAt (Elt F)
    (Rect.unit (s := S4x1024x1024) ![s.val, 0, 0] S1x1024x1024.size inb).toLoadRect f = slotB f s from hv]
  iapply Hk; iexact H

end Rules

section Body
variable (c : Dev nD) (i : grid0.Coords)
  (m4 : Memref sig .tc .vmem S1024x1024 .f32) (h4 : m4.IsWhole) (m5 : Memref sig .tc .vmem S1024x512 .f32) (h5 : m5.IsWhole)
  (m6 : Memref sig .tc .vmem S1024x8192 .f32) (h6 : m6.IsWhole)
  {Q : PUnit → sProp (MT nD τ sig Unit (Elt F) ℕ UU ℕ)}

/-- The body at given staging buffers. -/
abbrev body : Prog (TpuEff nD τ sig (Elt F) Λ₀ .tc) PUnit :=
  cc0_body i (Memref.whole main_v15) (Memref.isWhole_whole _) (Memref.whole main_arg0) (Memref.isWhole_whole _) m4 h4 m5 h5 m6 h6
    (Memref.whole cc0_scratch0) (Memref.isWhole_whole _) cc0_scratch1 cc0_scratch2

/-- The value a whole block's load reads. -/
theorem load_whole {s : Shape} {e : EltTy} (m : Memref sig .tc .vmem s e) (X : s.Idx → Elt F e) {off : Fin s.rank → Nat} (hoff : ∀ a, off a = 0) {inb} {hl} (q : PosShare TreeShare)
    {α : Type} {R : α → sProp (MT nD τ sig Unit (Elt F) ℕ UU ℕ)} {kk : (s.Idx → Elt F e) → Prog (TpuEff nD τ sig (Elt F) Λ₀ .tc) α} :
    (owns (c : Thread nD τ) m q X : sProp (MT nD τ sig Unit (Elt F) ℕ UU ℕ))
      ⊢ iprop((owns (c : Thread nD τ) m q X -∗ wp frame (wpE (defs₀ (F := F)) 𝒱₀ (c : Thread nD τ) none) Set.univ (kk X) R)
          -∗ wp frame (wpE (defs₀ (F := F)) 𝒱₀ (c : Thread nD τ) none) Set.univ (.op (.load m (Rect.unit (s := s) off s.size inb).toLoadRect hl) kk) R) := by
  have h := load_owns (F := F) (Q := R) c (m := m) (r := (Rect.unit (s := s) off s.size inb).toLoadRect) (hl := hl) (k := kk) q X
  rwa [whole_read X off hoff inb] at h

end Body

/-! ## The three products -/

section Products
variable (c : Dev nD) (n : Fin 16)
  {m4 : Memref sig .tc .vmem S1024x1024 .f32} {m5 : Memref sig .tc .vmem S1024x512 .f32} {m6 : Memref sig .tc .vmem S1024x8192 .f32}
  {α : Type} {k : PUnit → Prog (TpuEff nD τ sig (Elt F) Λ₀ .tc) α} {Q : α → sProp (MT nD τ sig Unit (Elt F) ℕ UU ℕ)}
  (V : S1024x1024.Idx → Elt F .f32) (W : S1024x512.Idx → Elt F .f32) (X : S1024x8192.Idx → Elt F .f32)
  (f : (cc0_scratch0 : Ref sig .tc).ty.Contents (Elt F)) (s : Fin 4)

/-- The output block `X'` is `X` with `v` in tile `n`. -/
def Put (v : S1024x512.Idx → Elt F .f32) (X' : S1024x8192.Idx → Elt F .f32) : Prop :=
  tileB X' n = v ∧ ∀ n' : Fin 16, n' ≠ n → tileB X' n' = tileB X n'

/-- The first round: the tile takes the product of the own rows with the weight's block. -/
theorem put_first {o4 : Fin 2 → Nat} (h4 : o4 = ![0, 0]) {b4 l4} {o5 : Fin 2 → Nat} (h5 : o5 = ![0, 0]) {b5 l5} {o6 : Fin 2 → Nat} (h6 : o6 = ![0, 512 * n.val]) {b6 l6 t6 u6} :
    iprop(owns (c : Thread nD τ) m4 fullShare V ∗ owns (c : Thread nD τ) m5 fullShare W ∗ owns (c : Thread nD τ) m6 fullShare X)
      ⊢ iprop((∀ X', ⌜Put n X (k0_pay1 V W) X'⌝ -∗ owns (c : Thread nD τ) m4 fullShare V ∗ owns (c : Thread nD τ) m5 fullShare W ∗ owns (c : Thread nD τ) m6 fullShare X'
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load m4 (Rect.unit (s := S1024x1024) o4 S1024x1024.size b4).toLoadRect l4) fun v4 =>
            .op (.load m5 (Rect.unit (s := S1024x512) o5 S1024x512.size b5).toLoadRect l5) fun v5 =>
            .op (.load m6 (Rect.unit (s := S1024x8192) o6 S1024x512.size b6).toLoadRect l6) fun _ =>
            .op (.store m6 (Rect.unit (s := S1024x8192) o6 S1024x512.size b6) (k0_pay1 v4 v5) Finset.univ t6 u6) k) Q) := by
  subst h4 h5
  iintro ⟨HV, HW, HX⟩ Hk
  iapply (load_whole c m4 V (by decide) fullShare) $$ HV
  iintro HV
  iapply (load_whole c m5 W (by decide) fullShare) $$ HW
  iintro HW
  iapply (load_owns c fullShare X) $$ HX
  iintro HX
  iapply (store_owns c X) $$ HX
  iintro %X' %hX HX
  iapply Hk $$ %X' []
  · ipureintro; exact tile_store X X' n o6 h6 _ _ hX.1 hX.2
  isplitl [HV]; · iexact HV
  isplitl [HW] <;> iassumption

/-- A middle round: the tile adds the product of the round's slot with the weight's block. -/
theorem put_mid {o6 : Fin 2 → Nat} (h6 : o6 = ![0, 512 * n.val]) {b6 l6 l6' t6 u6} {o7 : Fin 3 → Nat} (h7 : o7 = ![s.val, 0, 0]) {b7 l7} {o5 : Fin 2 → Nat} (h5 : o5 = ![0, 0]) {b5 l5} :
    iprop(slotPts c s f ∗ owns (c : Thread nD τ) m5 fullShare W ∗ owns (c : Thread nD τ) m6 fullShare X)
      ⊢ iprop((∀ X', ⌜Put n X (k0_pay2 (tileB X n) (slotB f s) W) X'⌝ -∗ slotPts c s f ∗ owns (c : Thread nD τ) m5 fullShare W ∗ owns (c : Thread nD τ) m6 fullShare X'
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load m6 (Rect.unit (s := S1024x8192) o6 S1024x512.size b6).toLoadRect l6) fun v6 =>
            .op (.load (Memref.whole cc0_scratch0 : Memref sig .tc .vmem S4x1024x1024 .f32) (Rect.unit (s := S4x1024x1024) o7 S1x1024x1024.size b7).toLoadRect l7) fun v7 =>
            .op (.load m5 (Rect.unit (s := S1024x512) o5 S1024x512.size b5).toLoadRect l5) fun v5 =>
            .op (.load m6 (Rect.unit (s := S1024x8192) o6 S1024x512.size b6).toLoadRect l6') fun _ =>
            .op (.store m6 (Rect.unit (s := S1024x8192) o6 S1024x512.size b6) (k0_pay2 v6 v7 v5) Finset.univ t6 u6) k) Q) := by
  subst h5
  iintro ⟨Hs, HW, HX⟩ Hk
  iapply (load_owns c fullShare X) $$ HX
  iintro HX
  rw [tile_read X n o6 h6]
  iapply (load_slot c s f h7) $$ Hs
  iintro Hs
  iapply (load_whole c m5 W (by decide) fullShare) $$ HW
  iintro HW
  iapply (load_owns c fullShare X) $$ HX
  iintro HX
  iapply (store_owns c X) $$ HX
  iintro %X' %hX HX
  iapply Hk $$ %X' []
  · ipureintro; exact tile_store X X' n o6 h6 _ _ hX.1 hX.2
  isplitl [Hs]; · iexact Hs
  isplitl [HW] <;> iassumption

/-- The last round: the same, and what is negative becomes zero. -/
theorem put_last {o6 : Fin 2 → Nat} (h6 : o6 = ![0, 512 * n.val]) {b6 l6 l6' t6 u6} {o7 : Fin 3 → Nat} (h7 : o7 = ![s.val, 0, 0]) {b7 l7} {o5 : Fin 2 → Nat} (h5 : o5 = ![0, 0]) {b5 l5} :
    iprop(slotPts c s f ∗ owns (c : Thread nD τ) m5 fullShare W ∗ owns (c : Thread nD τ) m6 fullShare X)
      ⊢ iprop((∀ X', ⌜Put n X (k0_pay3 (tileB X n) (slotB f s) W) X'⌝ -∗ slotPts c s f ∗ owns (c : Thread nD τ) m5 fullShare W ∗ owns (c : Thread nD τ) m6 fullShare X'
            -∗ wp frame (wpE (defs₀ (F := F)) 𝒱₀ (c : Thread nD τ) none) Set.univ (k ⟨⟩) Q)
        -∗ wp frame (wpE (defs₀ (F := F)) 𝒱₀ (c : Thread nD τ) none) Set.univ
          (.op (.load m6 (Rect.unit (s := S1024x8192) o6 S1024x512.size b6).toLoadRect l6) fun v6 =>
            .op (.load (Memref.whole cc0_scratch0 : Memref sig .tc .vmem S4x1024x1024 .f32) (Rect.unit (s := S4x1024x1024) o7 S1x1024x1024.size b7).toLoadRect l7) fun v7 =>
            .op (.load m5 (Rect.unit (s := S1024x512) o5 S1024x512.size b5).toLoadRect l5) fun v5 =>
            .op (.load m6 (Rect.unit (s := S1024x8192) o6 S1024x512.size b6).toLoadRect l6') fun _ =>
            .op (.store m6 (Rect.unit (s := S1024x8192) o6 S1024x512.size b6) (k0_pay3 v6 v7 v5) Finset.univ t6 u6) k) Q) := by
  subst h5
  iintro ⟨Hs, HW, HX⟩ Hk
  iapply (load_owns c fullShare X) $$ HX
  iintro HX
  rw [tile_read X n o6 h6]
  iapply (load_slot c s f h7) $$ Hs
  iintro Hs
  iapply (load_whole c m5 W (by decide) fullShare) $$ HW
  iintro HW
  iapply (load_owns c fullShare X) $$ HX
  iintro HX
  iapply (store_owns c X) $$ HX
  iintro %X' %hX HX
  iapply Hk $$ %X' []
  · ipureintro; exact tile_store X X' n o6 h6 _ _ hX.1 hX.2
  isplitl [Hs]; · iexact Hs
  isplitl [HW] <;> iassumption

end Products

end Cert.KernelIdeal.Pf

end
-- ==== Proof.Body.lean ====
/- The body, case by case: which of its branches a point takes, and what each leaves. -/
module

public import proofs.«01_k».proof.Proof.Open

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (K : GSem nD τ sig → ℕ)
  (c : Dev nD) (i : grid0.Coords) (j : Fin 4) (n : Fin 16) (hi0 : i 0 = j) (hi1 : i 1 = n)
  (m4 : Memref sig .tc .vmem S1024x1024 .f32) (h4 : m4.IsWhole) (m5 : Memref sig .tc .vmem S1024x512 .f32) (h5 : m5.IsWhole)
  (m6 : Memref sig .tc .vmem S1024x8192 .f32) (h6 : m6.IsWhole)
  (V : S1024x1024.Idx → Elt F .f32) (W : S1024x512.Idx → Elt F .f32) (X : S1024x8192.Idx → Elt F .f32)
  {Q : PUnit → sProp (MT nD τ sig Unit (Elt F) ℕ UU ℕ)}

/-- The staging buffers at given contents. -/
def stg (X : S1024x8192.Idx → Elt F .f32) : sProp 𝕄 :=
  iprop(owns (c : Thread nD τ) m4 fullShare V ∗ owns (c : Thread nD τ) m5 fullShare W ∗ owns (c : Thread nD τ) m6 fullShare X)

theorem ord_ne (hj : 0 < j.val) : ord c j ≠ c := by revert c j; decide

include hi0 hi1
/-- In the first round, past the first point: the tile takes the own product. -/
theorem body_first (hj : j.val = 0) (hn : 0 < n.val) :
    iprop(tbl c ∗ stg c m4 m5 m6 V W X)
      ⊢ iprop((∀ X', ⌜Put n X (k0_pay1 V W) X'⌝ -∗ tbl c ∗ stg c m4 m5 m6 V W X' -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : ¬ k0_cond2 i = 1#1 := (cond2_iff i).not.mpr (by subst hi0 hi1; omega)
  have c3 : k0_cond3 i = 1#1 := (cond3_iff i).mpr (by subst hi0 hi1; omega)
  have c4 : ¬ k0_cond4 i = 1#1 := (cond4_iff i).not.mpr (by subst hi0 hi1; omega)
  have c5 : ¬ k0_cond5 i = 1#1 := (cond5_iff i).not.mpr (by subst hi0 hi1; omega)
  have c6 : ¬ k0_cond6 i = 1#1 := (cond6_iff i).not.mpr (by subst hi0 hi1; omega)
  unfold body stg
  rw [cc0_body_eq_skeleton]
  unfold cc0_body_skel
  simp only [dif_neg c1, dif_neg c2, dif_pos c3, dif_neg c4, dif_neg c5, dif_neg c6, smemLoad, smemLoadElt, Prog.lift, Prog.bind_op, Prog.bind_ret, Prog.pure_eq_ret, Prog.bind_assoc]
  iintro ⟨Ht, HV, HW, HX⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (put_first c n V W X rfl rfl (by rw [k0_off7_eq, hi1])) $$ [HV HW HX]
  · isplitl [HV]; · iexact HV
    isplitl [HW] <;> iassumption
  iintro %X' %hX ⟨HV, HW, HX⟩
  rw [wp_ret]
  imodintro
  iapply Hk $$ %X' []
  · ipureintro; exact hX
  isplitl [Ht]; · iexact Ht
  isplitl [HV]; · iexact HV
  isplitl [HW] <;> iassumption

/-- In a middle round, past its first point: the tile adds the product of the round's slot. -/
theorem body_mid (hj : 0 < j.val) (hj' : j.val < 3) (hn : 0 < n.val) :
    iprop(tbl c ∗ stg c m4 m5 m6 V W X ∗ wait1 x c (ord c j))
      ⊢ iprop((∀ X', ⌜Put n X (k0_pay2 (tileB X n) (slotB (landed x c) (ord c j)) W) X'⌝ -∗ tbl c ∗ stg c m4 m5 m6 V W X' ∗ wait1 x c (ord c j) -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : ¬ k0_cond2 i = 1#1 := (cond2_iff i).not.mpr (by subst hi0 hi1; omega)
  have c3 : ¬ k0_cond3 i = 1#1 := (cond3_iff i).not.mpr (by subst hi0 hi1; omega)
  have c4 : k0_cond4 i = 1#1 := (cond4_iff i).mpr (by subst hi0 hi1; omega)
  have c5 : ¬ k0_cond5 i = 1#1 := (cond5_iff i).not.mpr (by subst hi0 hi1; omega)
  have c6 : ¬ k0_cond6 i = 1#1 := (cond6_iff i).not.mpr (by subst hi0 hi1; omega)
  unfold body stg
  rw [cc0_body_eq_skeleton]
  unfold cc0_body_skel
  simp only [dif_neg c1, dif_neg c2, dif_neg c3, dif_pos c4, dif_neg c5, dif_neg c6, smemLoad, smemLoadElt, Prog.lift, Prog.bind_op, Prog.bind_ret, Prog.pure_eq_ret, Prog.bind_assoc]
  unfold wait1
  iintro ⟨Ht, ⟨HV, HW, HX⟩, Hz, Hs⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (put_mid c n W X (landed x c) (ord c j) (by rw [k0_off8_eq, hi1]) (off9_wd (ord c j)) rfl) $$ [Hs HW HX]
  · isplitl [Hs]; · iexact Hs
    isplitl [HW] <;> iassumption
  iintro %X' %hX ⟨Hs, HW, HX⟩
  rw [wp_ret]
  imodintro
  iapply Hk $$ %X' []
  · ipureintro; exact hX
  isplitl [Ht]; · iexact Ht
  isplitl [HV HW HX]
  · isplitl [HV]; · iexact HV
    isplitl [HW] <;> iassumption
  isplitl [Hz] <;> iassumption

/-- In the last round, past its first point and before its last: the same, and what is negative becomes zero. -/
theorem body_last (hj : j.val = 3) (hn : 0 < n.val) (hn' : n.val < 15) :
    iprop(tbl c ∗ stg c m4 m5 m6 V W X ∗ wait1 x c (ord c j))
      ⊢ iprop((∀ X', ⌜Put n X (k0_pay3 (tileB X n) (slotB (landed x c) (ord c j)) W) X'⌝ -∗ tbl c ∗ stg c m4 m5 m6 V W X' ∗ wait1 x c (ord c j) -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : ¬ k0_cond2 i = 1#1 := (cond2_iff i).not.mpr (by subst hi0 hi1; omega)
  have c3 : ¬ k0_cond3 i = 1#1 := (cond3_iff i).not.mpr (by subst hi0 hi1; omega)
  have c4 : ¬ k0_cond4 i = 1#1 := (cond4_iff i).not.mpr (by subst hi0 hi1; omega)
  have c5 : k0_cond5 i = 1#1 := (cond5_iff i).mpr (by subst hi0 hi1; omega)
  have c6 : ¬ k0_cond6 i = 1#1 := (cond6_iff i).not.mpr (by subst hi0 hi1; omega)
  unfold body stg
  rw [cc0_body_eq_skeleton]
  unfold cc0_body_skel
  simp only [dif_neg c1, dif_neg c2, dif_neg c3, dif_neg c4, dif_pos c5, dif_neg c6, smemLoad, smemLoadElt, Prog.lift, Prog.bind_op, Prog.bind_ret, Prog.pure_eq_ret, Prog.bind_assoc]
  unfold wait1
  iintro ⟨Ht, ⟨HV, HW, HX⟩, Hz, Hs⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (put_last c n W X (landed x c) (ord c j) (by rw [k0_off10_eq, hi1]) (off11_wd (ord c j)) rfl) $$ [Hs HW HX]
  · isplitl [Hs]; · iexact Hs
    isplitl [HW] <;> iassumption
  iintro %X' %hX ⟨Hs, HW, HX⟩
  rw [wp_ret]
  imodintro
  iapply Hk $$ %X' []
  · ipureintro; exact hX
  isplitl [Ht]; · iexact Ht
  isplitl [HV HW HX]
  · isplitl [HV]; · iexact HV
    isplitl [HW] <;> iassumption
  isplitl [Hz] <;> iassumption

/-- At a middle round's first point the slot is awaited before it is read. -/
theorem body_mid_wait (hj : 0 < j.val) (hj' : j.val < 3) (hn : n.val = 0) :
    iprop(tbl c ∗ stg c m4 m5 m6 V W X ∗ recs x K ∗ ow c 0 ∗ wait0 c (ord c j))
      ⊢ iprop((∀ X', ⌜Put n X (k0_pay2 (tileB X n) (slotB (landed x c) (ord c j)) W) X'⌝ -∗ tbl c ∗ stg c m4 m5 m6 V W X' ∗ ow c 0 ∗ wait1 x c (ord c j) -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : k0_cond2 i = 1#1 := (cond2_iff i).mpr (by subst hi0 hi1; omega)
  have c3 : ¬ k0_cond3 i = 1#1 := (cond3_iff i).not.mpr (by subst hi0 hi1; omega)
  have c4 : k0_cond4 i = 1#1 := (cond4_iff i).mpr (by subst hi0 hi1; omega)
  have c5 : ¬ k0_cond5 i = 1#1 := (cond5_iff i).not.mpr (by subst hi0 hi1; omega)
  have c6 : ¬ k0_cond6 i = 1#1 := (cond6_iff i).not.mpr (by subst hi0 hi1; omega)
  unfold body stg
  rw [cc0_body_eq_skeleton]
  unfold cc0_body_skel
  simp only [dif_neg c1, dif_pos c2, dif_neg c3, dif_pos c4, dif_neg c5, dif_neg c6, smemLoad, smemLoadElt, Prog.lift, Prog.bind_op, Prog.bind_ret, Prog.pure_eq_ret, Prog.bind_assoc]
  unfold wait0 wait1
  iintro ⟨Ht, ⟨HV, HW, HX⟩, #HR, HO, Hc, Ha⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (step_land x K c (ord c j) (ord_ne c j (by omega)) (recvS_eq (ord c j) _ (off5_wd (ord c j)) _) (slotM_eq (ord c j) _ (off6_wd (ord c j)) _ _)) $$ [HO Hc Ha]
  · isplitr; · iexact HR
    isplitl [HO]; · iexact HO
    isplitl [Hc] <;> iassumption
  iintro ⟨HO, Hz, Hs⟩
  iapply (put_mid c n W X (landed x c) (ord c j) (by rw [k0_off8_eq, hi1]) (off9_wd (ord c j)) rfl) $$ [Hs HW HX]
  · isplitl [Hs]; · iexact Hs
    isplitl [HW] <;> iassumption
  iintro %X' %hX ⟨Hs, HW, HX⟩
  rw [wp_ret]
  imodintro
  iapply Hk $$ %X' []
  · ipureintro; exact hX
  isplitl [Ht]; · iexact Ht
  isplitl [HV HW HX]
  · isplitl [HV]; · iexact HV
    isplitl [HW] <;> iassumption
  isplitl [HO]; · iexact HO
  isplitl [Hz] <;> iassumption

/-- At the last round's first point the slot is awaited before it is read. -/
theorem body_last_wait (hj : j.val = 3) (hn : n.val = 0) :
    iprop(tbl c ∗ stg c m4 m5 m6 V W X ∗ recs x K ∗ ow c 0 ∗ wait0 c (ord c j))
      ⊢ iprop((∀ X', ⌜Put n X (k0_pay3 (tileB X n) (slotB (landed x c) (ord c j)) W) X'⌝ -∗ tbl c ∗ stg c m4 m5 m6 V W X' ∗ ow c 0 ∗ wait1 x c (ord c j) -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : k0_cond2 i = 1#1 := (cond2_iff i).mpr (by subst hi0 hi1; omega)
  have c3 : ¬ k0_cond3 i = 1#1 := (cond3_iff i).not.mpr (by subst hi0 hi1; omega)
  have c4 : ¬ k0_cond4 i = 1#1 := (cond4_iff i).not.mpr (by subst hi0 hi1; omega)
  have c5 : k0_cond5 i = 1#1 := (cond5_iff i).mpr (by subst hi0 hi1; omega)
  have c6 : ¬ k0_cond6 i = 1#1 := (cond6_iff i).not.mpr (by subst hi0 hi1; omega)
  unfold body stg
  rw [cc0_body_eq_skeleton]
  unfold cc0_body_skel
  simp only [dif_neg c1, dif_pos c2, dif_neg c3, dif_neg c4, dif_pos c5, dif_neg c6, smemLoad, smemLoadElt, Prog.lift, Prog.bind_op, Prog.bind_ret, Prog.pure_eq_ret, Prog.bind_assoc]
  unfold wait0 wait1
  iintro ⟨Ht, ⟨HV, HW, HX⟩, #HR, HO, Hc, Ha⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (step_land x K c (ord c j) (ord_ne c j (by omega)) (recvS_eq (ord c j) _ (off5_wd (ord c j)) _) (slotM_eq (ord c j) _ (off6_wd (ord c j)) _ _)) $$ [HO Hc Ha]
  · isplitr; · iexact HR
    isplitl [HO]; · iexact HO
    isplitl [Hc] <;> iassumption
  iintro ⟨HO, Hz, Hs⟩
  iapply (put_last c n W X (landed x c) (ord c j) (by rw [k0_off10_eq, hi1]) (off11_wd (ord c j)) rfl) $$ [Hs HW HX]
  · isplitl [Hs]; · iexact Hs
    isplitl [HW] <;> iassumption
  iintro %X' %hX ⟨Hs, HW, HX⟩
  rw [wp_ret]
  imodintro
  iapply Hk $$ %X' []
  · ipureintro; exact hX
  isplitl [Ht]; · iexact Ht
  isplitl [HV HW HX]
  · isplitl [HV]; · iexact HV
    isplitl [HW] <;> iassumption
  isplitl [HO]; · iexact HO
  isplitl [Hz] <;> iassumption

end Cert.KernelIdeal.Pf

end
-- ==== Proof.Ends.lean ====
/- The body at its first point and at its last. -/
module

public import proofs.«01_k».proof.Proof.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (K : GSem nD τ sig → ℕ)
  (c : Dev nD) (i : grid0.Coords) (j : Fin 4) (n : Fin 16) (hi0 : i 0 = j) (hi1 : i 1 = n)
  (m4 : Memref sig .tc .vmem S1024x1024 .f32) (h4 : m4.IsWhole) (m5 : Memref sig .tc .vmem S1024x512 .f32) (h5 : m5.IsWhole)
  (m6 : Memref sig .tc .vmem S1024x8192 .f32) (h6 : m6.IsWhole)
  (V : S1024x1024.Idx → Elt F .f32) (W : S1024x512.Idx → Elt F .f32) (X : S1024x8192.Idx → Elt F .f32)
  {Q : PUnit → sProp (MT nD τ sig Unit (Elt F) ℕ UU ℕ)}

include hi0 hi1
/-- At the first point: the barrier, the transfers, and the first tile. -/
theorem body_start (hj : j.val = 0) (hn : n.val = 0) :
    iprop(tbl c ∗ stg c m4 m5 m6 V W X ∗ recs x K ∗ ow c (O₀ c) ∗ phA x c)
      ⊢ iprop((∀ X', ⌜Put n X (k0_pay1 V W) X'⌝ -∗ tbl c ∗ stg c m4 m5 m6 V W X' ∗ ow c 0 ∗ phB c -∗ Q ⟨⟩)
        -∗ wp frame (wpE (defs₀ (F := F)) 𝒱₀ (c : Thread nD τ) none) Set.univ (body (F := F) i m4 h4 m5 h5 m6 h6) Q) := by
  have c1 : k0_cond1 i = 1#1 := (cond1_iff i).mpr (by subst hi0 hi1; omega)
  have c2 : ¬ k0_cond2 i = 1#1 := (cond2_iff i).not.mpr (by subst hi0 hi1; omega)
  have c3 : k0_cond3 i = 1#1 := (cond3_iff i).mpr (by subst hi0 hi1; omega)
  have c4 : ¬ k0_cond4 i = 1#1 := (cond4_iff i).not.mpr (by subst hi0 hi1; omega)
  have c5 : ¬ k0_cond5 i = 1#1 := (cond5_iff i).not.mpr (by subst hi0 hi1; omega)
  have c6 : ¬ k0_cond6 i = 1#1 := (cond6_iff i).not.mpr (by subst hi0 hi1; omega)
  unfold body stg
  rw [cc0_body_eq_skeleton]
  unfold cc0_body_skel
  rw [k0_part1_eq_skeleton, k0_part2_eq_skeleton]
  unfold k0_part1_skel k0_part2_skel
  simp only [dif_pos c1, dif_neg c2, dif_pos c3, dif_neg c4, dif_neg c5, dif_neg c6, semSignalWord, semWaitWord, smemLoad, smemLoadElt, Prog.lift, Prog.bind_op, Prog.bind_ret, Prog.pure_eq_ret, Prog.bind_assoc]
  unfold phA phB leg0 leg1 O₀
  iintro ⟨Ht, ⟨HV, HW, HX⟩, #HR, HO, Hl, Hcb, Hab, ⟨Hg0, Hn0, Ha0⟩, ⟨Hg1, Hn1, Ha1⟩, Hg2, Hn2, Ha2⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (step_signal x K c 0 (O₁ c + owedBar c 2 + owedBar c 1) (Fin.ext (dev1_wd c)) barS_eq) $$ [HO Hg0]
  · isplitr; · iexact HR
    isplitl [HO] <;> iassumption
  iintro HO
  iapply (step_signal x K c 1 (O₁ c + owedBar c 2) (Fin.ext (dev2_wd c)) barS_eq) $$ [HO Hg1]
  · isplitr; · iexact HR
    isplitl [HO] <;> iassumption
  iintro HO
  iapply (step_signal x K c 2 (O₁ c) (Fin.ext (dev3_wd c)) barS_eq) $$ [HO Hg2]
  · isplitr; · iexact HR
    isplitl [HO] <;> iassumption
  iintro HO
  iapply (step_barrier x K c barS_eq) $$ [HO Hl Hcb Hab]
  · isplitr; · iexact HR
    isplitl [HO]; · iexact HO
    isplitl [Hl]; · iexact Hl
    isplitl [Hcb] <;> iassumption
  iintro ⟨HO, Hb, Hp0, Hp1, Hp2⟩
  unfold O₁
  iapply (step_send x K c 0 (0 + owedRecv c 2 + owedRecv c 1) (Fin.ext (dev4_wd c)) (rowsM_eq (peer c 0) _ (off4_wd c 1) _ _) (slotM_eq c _ (off3_wd c) _ _)
    (sendS_eq 0 _) (recvS_eq c _ (off2_wd c) _)) $$ [HO Hn0 Hp0]
  · isplitr; · iexact HR
    isplitl [HO]; · iexact HO
    isplitl [Hn0] <;> iassumption
  iintro ⟨Hc0, HO⟩
  iapply (step_send x K c 1 (0 + owedRecv c 2) (Fin.ext (dev5_wd c)) (rowsM_eq (peer c 1) _ (off4_wd c 2) _ _) (slotM_eq c _ (off3_wd c) _ _)
    (sendS_eq 1 _) (recvS_eq c _ (off2_wd c) _)) $$ [HO Hn1 Hp1]
  · isplitr; · iexact HR
    isplitl [HO]; · iexact HO
    isplitl [Hn1] <;> iassumption
  iintro ⟨Hc1, HO⟩
  iapply (step_send x K c 2 0 (Fin.ext (dev6_wd c)) (rowsM_eq (peer c 2) _ (off4_wd c 3) _ _) (slotM_eq c _ (off3_wd c) _ _)
    (sendS_eq 2 _) (recvS_eq c _ (off2_wd c) _)) $$ [HO Hn2 Hp2]
  · isplitr; · iexact HR
    isplitl [HO]; · iexact HO
    isplitl [Hn2] <;> iassumption
  iintro ⟨Hc2, HO⟩
  iapply (put_first c n V W X rfl rfl (by rw [k0_off7_eq, hi1])) $$ [HV HW HX]
  · isplitl [HV]; · iexact HV
    isplitl [HW] <;> iassumption
  iintro %X' %hX ⟨HV, HW, HX⟩
  rw [wp_ret]
  imodintro
  iapply Hk $$ %X' []
  · ipureintro; exact hX
  isplitl [Ht]; · iexact Ht
  isplitl [HV HW HX]
  · isplitl [HV]; · iexact HV
    isplitl [HW] <;> iassumption
  isplitl [HO]; · iexact HO
  isplitl [Hb]; · iexact Hb
  isplitl [Hc0 Ha0]; · isplitl [Hc0] <;> iassumption
  isplitl [Hc1 Ha1]; · isplitl [Hc1] <;> iassumption
  isplitl [Hc2] <;> iassumption

/-- At the last point the own transfers are awaited after the product. -/
theorem body_end (hj : j.val = 3) (hn : n.val = 15) :
    iprop(tbl c ∗ stg c m4 m5 m6 V W X ∗ wait1 x c (ord c j) ∗ recs x K ∗ ow c 0 ∗ phB c)
      ⊢ iprop((∀ X', ⌜Put n X (k0_pay3 (tileB X n) (slotB (landed x c) (ord c j)) W) X'⌝ -∗ tbl c ∗ stg c m4 m5 m6 V W X' ∗ wait1 x c (ord c j) ∗ ow c 0 ∗ phC x c -∗ Q ⟨⟩)
        -∗ wp frame (wpE (defs₀ (F := F)) 𝒱₀ (c : Thread nD τ) none) Set.univ (body (F := F) i m4 h4 m5 h5 m6 h6) Q) := by
  have c1 : ¬ k0_cond1 i = 1#1 := (cond1_iff i).not.mpr (by subst hi0 hi1; omega)
  have c2 : ¬ k0_cond2 i = 1#1 := (cond2_iff i).not.mpr (by subst hi0 hi1; omega)
  have c3 : ¬ k0_cond3 i = 1#1 := (cond3_iff i).not.mpr (by subst hi0 hi1; omega)
  have c4 : ¬ k0_cond4 i = 1#1 := (cond4_iff i).not.mpr (by subst hi0 hi1; omega)
  have c5 : k0_cond5 i = 1#1 := (cond5_iff i).mpr (by subst hi0 hi1; omega)
  have c6 : k0_cond6 i = 1#1 := (cond6_iff i).mpr (by subst hi0 hi1; omega)
  unfold body stg
  rw [cc0_body_eq_skeleton]
  unfold cc0_body_skel
  rw [k0_part3_eq_skeleton]
  unfold k0_part3_skel
  simp only [dif_neg c1, dif_neg c2, dif_neg c3, dif_neg c4, dif_pos c5, dif_pos c6, smemLoad, smemLoadElt, Prog.lift, Prog.bind_op, Prog.bind_ret, Prog.pure_eq_ret, Prog.bind_assoc]
  unfold wait1 phB phC leg1 leg2
  iintro ⟨Ht, ⟨HV, HW, HX⟩, ⟨Hz, Hs⟩, #HR, HO, Hb, ⟨Hc0, Ha0⟩, ⟨Hc1, Ha1⟩, Hc2, Ha2⟩ Hk
  iapply (load_table c 0 rfl) $$ Ht
  iintro Ht
  rw [ord_zero]
  simp only [wp_assume_of _ _ _ _ (d := k0_chk1.dec _ _) (chk1_wd i c)]
  iapply (load_table c j (by rw [k0_off1_eq, hi0])) $$ Ht
  iintro Ht
  simp only [wp_assume_of _ _ _ _ (d := k0_chk2.dec _ _) (chk2_wd i (ord c j))]
  iapply (put_last c n W X (landed x c) (ord c j) (by rw [k0_off10_eq, hi1]) (off11_wd (ord c j)) rfl) $$ [Hs HW HX]
  · isplitl [Hs]; · iexact Hs
    isplitl [HW] <;> iassumption
  iintro %X' %hX ⟨Hs, HW, HX⟩
  iapply (step_sent x K c 0 (sendS_eq 0 _) (rowsM_eq (c + 1 : Fin 4) _ (off12_wd c 1) _ _)) $$ [HO Hc0 Ha0]
  · isplitr; · iexact HR
    isplitl [HO]; · iexact HO
    isplitl [Hc0] <;> iassumption
  iintro ⟨HO, Hv0, Hr0⟩
  iapply (step_sent x K c 1 (sendS_eq 1 _) (rowsM_eq (c + 2 : Fin 4) _ (off12_wd c 2) _ _)) $$ [HO Hc1 Ha1]
  · isplitr; · iexact HR
    isplitl [HO]; · iexact HO
    isplitl [Hc1] <;> iassumption
  iintro ⟨HO, Hv1, Hr1⟩
  iapply (step_sent x K c 2 (sendS_eq 2 _) (rowsM_eq (c + 3 : Fin 4) _ (off12_wd c 3) _ _)) $$ [HO Hc2 Ha2]
  · isplitr; · iexact HR
    isplitl [HO]; · iexact HO
    isplitl [Hc2] <;> iassumption
  iintro ⟨HO, Hv2, Hr2⟩
  rw [wp_ret]
  imodintro
  iapply Hk $$ %X' []
  · ipureintro; exact hX
  isplitl [Ht]; · iexact Ht
  isplitl [HV HW HX]
  · isplitl [HV]; · iexact HV
    isplitl [HW] <;> iassumption
  isplitl [Hz Hs]; · isplitl [Hz] <;> iassumption
  isplitl [HO]; · iexact HO
  isplitl [Hb]; · iexact Hb
  isplitl [Hv0 Hr0]; · isplitl [Hv0] <;> iassumption
  isplitl [Hv1 Hr1]; · isplitl [Hv1] <;> iassumption
  isplitl [Hv2] <;> iassumption

end Cert.KernelIdeal.Pf

end
-- ==== Proof.Point.lean ====
/- One point of the loop: from what is held before it to what is held after it. -/
module

public import proofs.«01_k».proof.Proof.Ends

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section Values

variable (x : Dev nD → (main_arg0 : Ref sig .tc).ty.Contents (Elt F)) (w : (main_arg1 : Ref sig .tc).ty.Contents (Elt F)) (c : Dev nD)
  (j : Fin 4) (n : Fin 16) (X X' : S1024x8192.Idx → Elt F .f32) (hX : Inv2 x w c (16 * j.val + n.val) X)

include hX

/-- Each round's product moves the output on by a point. -/
theorem inv_first (hj : j.val = 0) (h : Put n X (k0_pay1 (xb (x c) c) (wb w (ord c j) n)) X') : Inv2 x w c (16 * j.val + n.val + 1) X' := by
  obtain rfl : j = 0 := Fin.ext hj
  refine inv2_step x w c hX (h.1.trans ?_) h.2
  show _ = accB x w c 0 n; rw [accB.eq_1]

theorem inv_mid (hj : 0 < j.val) (hj' : j.val < 3) (h : Put n X (k0_pay2 (tileB X n) (slotB (landed x c) (ord c j)) (wb w (ord c j) n)) X') :
    Inv2 x w c (16 * j.val + n.val + 1) X' := by
  refine inv2_step x w c hX (h.1.trans ?_) h.2
  rcases (by omega : j.val = 1 ∨ j.val = 2) with e | e
  · obtain rfl : j = 1 := Fin.ext e
    rw [inv2_tile x w c (j := 0) hX]; show _ = accB x w c 1 n; rw [accB.eq_2]
  · obtain rfl : j = 2 := Fin.ext e
    rw [inv2_tile x w c (j := 1) hX]; show _ = accB x w c 2 n; rw [accB.eq_3]

theorem inv_last' (hj : j.val = 3) (h : Put n X (k0_pay3 (tileB X n) (slotB (landed x c) (ord c j)) (wb w (ord c j) n)) X') :
    Inv2 x w c (16 * j.val + n.val + 1) X' := by
  obtain rfl : j = 3 := Fin.ext hj
  refine inv2_step x w c hX (h.1.trans ?_) h.2
  rw [inv2_tile x w c (j := 2) hX]; show _ = accB x w c (0 + 3) n; rw [accB.eq_4]

end Values

variable (x : Dev nD → (main_arg0 : Ref sig .tc).ty.Contents (Elt F)) (c : Dev nD)

theorem recvSt_wait {t p : ℕ} (s : Fin 4) (h : t ≤ 16 * p) : recvSt x c t p s = wait0 c s := if_pos h
theorem recvSt_have {t p : ℕ} (s : Fin 4) (h : 16 * p < t) : recvSt x c t p s = wait1 x c s := if_neg (Nat.not_le.2 h)
theorem recvSt_same {t p : ℕ} (s : Fin 4) (h : t ≠ 16 * p) : recvSt x c t p s = recvSt x c (t + 1) p s := by
  by_cases ht : t ≤ 16 * p
  · rw [recvSt_wait x c s ht, recvSt_wait x c s (by omega)]
  · rw [recvSt_have x c s (by omega), recvSt_have x c s (by omega)]
theorem ph_zero {t : ℕ} (h : t = 0) : ph x c t = phA x c := if_pos h
theorem ph_mid {t : ℕ} (h : t ≠ 0) (h' : t ≠ 64) : ph x c t = phB c := by unfold ph; rw [if_neg h, if_neg h']
theorem ph_end {t : ℕ} (h : t = 64) : ph x c t = phC x c := by subst h; rfl

/-- The three slots awaited in the later rounds. -/
def slots (t : ℕ) : sProp 𝕄 := iprop(recvSt x c t 1 (ord c 1) ∗ recvSt x c t 2 (ord c 2) ∗ recvSt x c t 3 (ord c 3))

/-- In the first round none of them changes. -/
theorem slots_first {t : ℕ} (h : t < 16) : slots x c t = slots x c (t + 1) := by
  unfold slots
  rw [recvSt_same x c (ord c 1) (p := 1) (t := t) (by omega), recvSt_same x c (ord c 2) (p := 2) (t := t) (by omega), recvSt_same x c (ord c 3) (p := 3) (t := t) (by omega)]

/-- In a later round only the round's own does. -/
theorem slots_later (j : Fin 4) (n : Fin 16) (hj : 0 < j.val) :
    (slots x c (16 * j.val + n.val) : sProp 𝕄)
      ⊢ iprop(recvSt x c (16 * j.val + n.val) j.val (ord c j) ∗ (wait1 x c (ord c j) -∗ slots x c (16 * j.val + n.val + 1))) := by
  have hn := n.isLt
  rw [← recvSt_have x c (t := 16 * j.val + n.val + 1) (p := j.val) (ord c j) (by omega)]
  unfold slots
  rcases (by omega : j.val = 1 ∨ j.val = 2 ∨ j.val = 3) with e | e | e
  · obtain rfl : j = 1 := Fin.ext e
    rw [recvSt_same x c (ord c 2) (p := 2) (by omega), recvSt_same x c (ord c 3) (p := 3) (by omega)]
    iintro ⟨H, H2, H3⟩
    isplitl [H]; · iexact H
    iintro H
    isplitl [H]; · iexact H
    isplitl [H2] <;> iassumption
  · obtain rfl : j = 2 := Fin.ext e
    rw [recvSt_same x c (ord c 1) (p := 1) (by omega), recvSt_same x c (ord c 3) (p := 3) (by omega)]
    iintro ⟨H1, H, H3⟩
    isplitl [H]; · iexact H
    iintro H
    isplitl [H1]; · iexact H1
    isplitl [H]; · iexact H
    iexact H3
  · obtain rfl : j = 3 := Fin.ext e
    rw [recvSt_same x c (ord c 1) (p := 1) (by omega), recvSt_same x c (ord c 2) (p := 2) (by omega)]
    iintro ⟨H1, H2, H⟩
    isplitl [H]; · iexact H
    iintro H
    isplitl [H1]; · iexact H1
    isplitl [H2]; · iexact H2
    iexact H

theorem Phi_eq (t : ℕ) : (Phi x c t : sProp 𝕄) = iprop(∃ K, recs x K ∗ tbl c ∗ idle x c ∗ ph x c t ∗ slots x c t) := rfl

variable (w : (main_arg1 : Ref sig .tc).ty.Contents (Elt F))
  (i : grid0.Coords) (j : Fin 4) (n : Fin 16) (hi0 : i 0 = j) (hi1 : i 1 = n)
  (m4 : Memref sig .tc .vmem S1024x1024 .f32) (h4 : m4.IsWhole) (m5 : Memref sig .tc .vmem S1024x512 .f32) (h5 : m5.IsWhole)
  (m6 : Memref sig .tc .vmem S1024x8192 .f32) (h6 : m6.IsWhole)
  (X : S1024x8192.Idx → Elt F .f32) (hX : Inv2 x w c (16 * j.val + n.val) X)
  {Q : PUnit → sProp (MT nD τ sig Unit (Elt F) ℕ UU ℕ)}

/-- What is held after a point, put together. -/
theorem close_point (K : GSem nD τ sig → ℕ) (P S R G : sProp (MT nD τ sig Unit (Elt F) ℕ UU ℕ)) :
    iprop(recs x K ∗ tbl c ∗ idle x c ∗ P ∗ S ∗ R ∗ G) ⊢ iprop((∃ K, recs x K ∗ tbl c ∗ idle x c ∗ P ∗ S) ∗ R ∗ G) := by
  iintro ⟨#HR, Ht, Hi, Hp, Hs, HO, HG⟩
  isplitl [Ht Hi Hp Hs]
  · iexists K
    isplitr; · iexact HR
    isplitl [Ht]; · iexact Ht
    isplitl [Hi]; · iexact Hi
    isplitl [Hp] <;> iassumption
  isplitl [HO] <;> iassumption

include hi0 hi1 hX

/-- A point runs from what is held before it to what is held after it. -/
theorem point :
    iprop(Phi x c (16 * j.val + n.val) ∗ ow c (if 16 * j.val + n.val = 0 then O₀ c else 0) ∗ stg c m4 m5 m6 (xb (x c) c) (wb w (ord c j) n) X)
      ⊢ iprop((∀ X', ⌜Inv2 x w c (16 * j.val + n.val + 1) X'⌝ -∗ Phi x c (16 * j.val + n.val + 1) ∗ ow c 0 ∗ stg c m4 m5 m6 (xb (x c) c) (wb w (ord c j) n) X' -∗ Q ⟨⟩)
        -∗ wp frame (wpE (defs₀ (F := F)) 𝒱₀ (c : Thread nD τ) none) Set.univ (body (F := F) i m4 h4 m5 h5 m6 h6) Q) := by
  have hn := n.isLt
  have hjl : j.val < 4 := j.isLt
  rw [Phi_eq, Phi_eq]
  by_cases hj : j.val = 0
  · rw [slots_first x c (t := 16 * j.val + n.val) (by omega)]
    by_cases hn0 : n.val = 0
    · rw [ph_zero x c (by omega), ph_mid x c (t := 16 * j.val + n.val + 1) (by omega) (by omega), if_pos (by omega)]
      iintro ⟨⟨%K, #HR, Ht, Hi, Hp, Hs⟩, HO, HG⟩ Hk
      iapply (body_start x K c i j n hi0 hi1 m4 h4 m5 h5 m6 h6 _ _ X hj hn0 (Q := Q)) $$ [Ht HG HO Hp]
      · isplitl [Ht]; · iexact Ht
        isplitl [HG]; · iexact HG
        isplitr; · iexact HR
        isplitl [HO] <;> iassumption
      iintro %X' %hP ⟨Ht, HG, HO, Hp⟩
      iapply Hk $$ %X' %(inv_first x w c j n X X' hX hj hP)
      iapply (close_point x c K)
      isplitr; · iexact HR
      isplitl [Ht]; · iexact Ht
      isplitl [Hi]; · iexact Hi
      isplitl [Hp]; · iexact Hp
      isplitl [Hs]; · iexact Hs
      isplitl [HO] <;> iassumption
    · rw [ph_mid x c (t := 16 * j.val + n.val) (by omega) (by omega), ph_mid x c (t := 16 * j.val + n.val + 1) (by omega) (by omega), if_neg (by omega)]
      iintro ⟨⟨%K, #HR, Ht, Hi, Hp, Hs⟩, HO, HG⟩ Hk
      iapply (body_first c i j n hi0 hi1 m4 h4 m5 h5 m6 h6 _ _ X hj (by omega)) $$ [Ht HG]
      · isplitl [Ht] <;> iassumption
      iintro %X' %hP ⟨Ht, HG⟩
      iapply Hk $$ %X' %(inv_first x w c j n X X' hX hj hP)
      iapply (close_point x c K)
      isplitr; · iexact HR
      isplitl [Ht]; · iexact Ht
      isplitl [Hi]; · iexact Hi
      isplitl [Hp]; · iexact Hp
      isplitl [Hs]; · iexact Hs
      isplitl [HO] <;> iassumption
  · rw [ph_mid x c (t := 16 * j.val + n.val) (by omega) (by omega), if_neg (by omega)]
    by_cases hn0 : n.val = 0
    · rw [ph_mid x c (t := 16 * j.val + n.val + 1) (by omega) (by omega)]
      by_cases hj3 : j.val = 3
      · iintro ⟨⟨%K, #HR, Ht, Hi, Hp, Hs⟩, HO, HG⟩ Hk
        ihave Hs := (slots_later x c j n (by omega)) $$ Hs
        icases Hs with ⟨Hw, Hs⟩
        ihave Hw := (Entails.of_eq (recvSt_wait x c (t := 16 * j.val + n.val) (p := j.val) (ord c j) (by omega))) $$ Hw
        iapply (body_last_wait x K c i j n hi0 hi1 m4 h4 m5 h5 m6 h6 _ _ X hj3 hn0) $$ [Ht HG HO Hw]
        · isplitl [Ht]; · iexact Ht
          isplitl [HG]; · iexact HG
          isplitr; · iexact HR
          isplitl [HO] <;> iassumption
        iintro %X' %hP ⟨Ht, HG, HO, Hw⟩
        ihave Hs := Hs $$ Hw
        iapply Hk $$ %X' %(inv_last' x w c j n X X' hX hj3 hP)
        iapply (close_point x c K)
        isplitr; · iexact HR
        isplitl [Ht]; · iexact Ht
        isplitl [Hi]; · iexact Hi
        isplitl [Hp]; · iexact Hp
        isplitl [Hs]; · iexact Hs
        isplitl [HO] <;> iassumption
      · iintro ⟨⟨%K, #HR, Ht, Hi, Hp, Hs⟩, HO, HG⟩ Hk
        ihave Hs := (slots_later x c j n (by omega)) $$ Hs
        icases Hs with ⟨Hw, Hs⟩
        ihave Hw := (Entails.of_eq (recvSt_wait x c (t := 16 * j.val + n.val) (p := j.val) (ord c j) (by omega))) $$ Hw
        iapply (body_mid_wait x K c i j n hi0 hi1 m4 h4 m5 h5 m6 h6 _ _ X (by omega) (by omega) hn0) $$ [Ht HG HO Hw]
        · isplitl [Ht]; · iexact Ht
          isplitl [HG]; · iexact HG
          isplitr; · iexact HR
          isplitl [HO] <;> iassumption
        iintro %X' %hP ⟨Ht, HG, HO, Hw⟩
        ihave Hs := Hs $$ Hw
        iapply Hk $$ %X' %(inv_mid x w c j n X X' hX (by omega) (by omega) hP)
        iapply (close_point x c K)
        isplitr; · iexact HR
        isplitl [Ht]; · iexact Ht
        isplitl [Hi]; · iexact Hi
        isplitl [Hp]; · iexact Hp
        isplitl [Hs]; · iexact Hs
        isplitl [HO] <;> iassumption
    · by_cases hj3 : j.val = 3
      · by_cases hn15 : n.val = 15
        · rw [ph_end x c (t := 16 * j.val + n.val + 1) (by omega)]
          iintro ⟨⟨%K, #HR, Ht, Hi, Hp, Hs⟩, HO, HG⟩ Hk
          ihave Hs := (slots_later x c j n (by omega)) $$ Hs
          icases Hs with ⟨Hw, Hs⟩
          ihave Hw := (Entails.of_eq (recvSt_have x c (t := 16 * j.val + n.val) (p := j.val) (ord c j) (by omega))) $$ Hw
          iapply (body_end x K c i j n hi0 hi1 m4 h4 m5 h5 m6 h6 _ _ X hj3 hn15) $$ [Ht HG HO Hw Hp]
          · isplitl [Ht]; · iexact Ht
            isplitl [HG]; · iexact HG
            isplitl [Hw]; · iexact Hw
            isplitr; · iexact HR
            isplitl [HO] <;> iassumption
          iintro %X' %hP ⟨Ht, HG, Hw, HO, Hp⟩
          ihave Hs := Hs $$ Hw
          iapply Hk $$ %X' %(inv_last' x w c j n X X' hX hj3 hP)
          iapply (close_point x c K)
          isplitr; · iexact HR
          isplitl [Ht]; · iexact Ht
          isplitl [Hi]; · iexact Hi
          isplitl [Hp]; · iexact Hp
          isplitl [Hs]; · iexact Hs
          isplitl [HO] <;> iassumption
        · rw [ph_mid x c (t := 16 * j.val + n.val + 1) (by omega) (by omega)]
          iintro ⟨⟨%K, #HR, Ht, Hi, Hp, Hs⟩, HO, HG⟩ Hk
          ihave Hs := (slots_later x c j n (by omega)) $$ Hs
          icases Hs with ⟨Hw, Hs⟩
          ihave Hw := (Entails.of_eq (recvSt_have x c (t := 16 * j.val + n.val) (p := j.val) (ord c j) (by omega))) $$ Hw
          iapply (body_last x c i j n hi0 hi1 m4 h4 m5 h5 m6 h6 _ _ X hj3 (by omega) (by omega)) $$ [Ht HG Hw]
          · isplitl [Ht]; · iexact Ht
            isplitl [HG] <;> iassumption
          iintro %X' %hP ⟨Ht, HG, Hw⟩
          ihave Hs := Hs $$ Hw
          iapply Hk $$ %X' %(inv_last' x w c j n X X' hX hj3 hP)
          iapply (close_point x c K)
          isplitr; · iexact HR
          isplitl [Ht]; · iexact Ht
          isplitl [Hi]; · iexact Hi
          isplitl [Hp]; · iexact Hp
          isplitl [Hs]; · iexact Hs
          isplitl [HO] <;> iassumption
      · rw [ph_mid x c (t := 16 * j.val + n.val + 1) (by omega) (by omega)]
        iintro ⟨⟨%K, #HR, Ht, Hi, Hp, Hs⟩, HO, HG⟩ Hk
        ihave Hs := (slots_later x c j n (by omega)) $$ Hs
        icases Hs with ⟨Hw, Hs⟩
        ihave Hw := (Entails.of_eq (recvSt_have x c (t := 16 * j.val + n.val) (p := j.val) (ord c j) (by omega))) $$ Hw
        iapply (body_mid x c i j n hi0 hi1 m4 h4 m5 h5 m6 h6 _ _ X (by omega) (by omega) (by omega)) $$ [Ht HG Hw]
        · isplitl [Ht]; · iexact Ht
          isplitl [HG] <;> iassumption
        iintro %X' %hP ⟨Ht, HG, Hw⟩
        ihave Hs := Hs $$ Hw
        iapply Hk $$ %X' %(inv_mid x w c j n X X' hX (by omega) (by omega) hP)
        iapply (close_point x c K)
        isplitr; · iexact HR
        isplitl [Ht]; · iexact Ht
        isplitl [Hi]; · iexact Hi
        isplitl [Hp]; · iexact Hp
        isplitl [Hs]; · iexact Hs
        isplitl [HO] <;> iassumption

end Cert.KernelIdeal.Pf

end
-- ==== Proof.Obl.lean ====
/- The body meets the obligation of the loop at every point. -/
module

public import proofs.«01_k».proof.Proof.Point

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (w : Dev nD → (main_arg1 : Ref sig .tc).ty.Contents (Elt F))
  (o : Dev nD → (main_v16 : Ref sig .tc).ty.Contents (Elt F))

/-- What the loop says is owed, with no bound on what is recorded. -/
theorem owes_out (c : Dev nD) (t : Fin ((cfgs (F := F) c).N + 1)) :
    ((rdat x w o c).owesAt () t : sProp 𝕄) ⊢ ow c (if t.val = 0 then O₀ c else 0) := by
  unfold Pipeline.RDat.owesAt Pipeline.owesWithin ow
  iintro ⟨%W, -, HO⟩; iexists W; iexact HO
theorem owes_in (c : Dev nD) (t : Fin ((cfgs (F := F) c).N + 1)) :
    (ow c (if t.val = 0 then O₀ c else 0) : sProp 𝕄) ⊢ (rdat x w o c).owesAt () t := by
  unfold Pipeline.RDat.owesAt Pipeline.owesWithin Pipeline.RDat.bound ow
  iintro ⟨%W, HO⟩; iexists W
  isplitr; · ipureintro; exact fun _ _ => Or.inl trivial
  iexact HO

theorem coords_val (t : Fin grid0.N) : t.val = 16 * (grid0.coords t 0).val + (grid0.coords t 1).val := by
  have hc := coords_eq t; omega

theorem Phi_before (c : Dev nD) (t : Fin (cfgs (F := F) c).N) :
    (rdat x w o c).Φ t.castSucc = Phi x c t.val := congrArg (Phi x c) (Fin.val_castSucc t)
theorem Phi_after (c : Dev nD) (t : Fin (cfgs (F := F) c).N) : (rdat x w o c).Φ t.succ = Phi x c (t.val + 1) := rfl

/-- The obligation: found as the windows say, the staging buffers and what is held move on by a point. -/
theorem obl (c : Dev nD) : (rdat x w o c).BodyObligation defs₀ 𝒱₀ () Set.univ := by
  intro t Y hY
  have ht := coords_val t
  have h0 := finds_0 x w o c t _ (hY 0)
  have h1 := finds_1 x w o c t _ (hY 1)
  have h2 := finds_2 x w o c t _ (hY 2)
  rw [ht] at h2
  rw [Phi_before, Phi_after, bigSep_W0, bigSep_W0, h0, h1]
  iintro ⟨HP, HO, HV, HW, HX⟩
  ihave HO := (owes_out x w o c _) $$ HO
  ihave HP := (Entails.of_eq (congrArg (Phi x c) ht)) $$ HP
  iapply (point x c (w c) (grid0.coords t) (grid0.coords t 0) (grid0.coords t 1) rfl rfl _ (hstage0_0 (((cfgs (F := F) c).slots t 0).cast nbuf0_0)) _ (hstage0_1 (((cfgs (F := F) c).slots t 1).cast nbuf0_1)) _ (hstage0_2 (((cfgs (F := F) c).slots t 2).cast nbuf0_2)) (Y 2) h2) $$ [HP HO HV HW HX]
  · isplitl [HP]; · iexact HP
    isplitl [HO]
    · rw [← ht, ← Fin.val_castSucc t]; iexact HO
    unfold stg
    isplitl [HV]; · iexact HV
    isplitl [HW]; · iexact HW
    iexact HX
  iintro %X' %hX ⟨HP, HO, HG⟩
  unfold stg
  icases HG with ⟨HV, HW, HX⟩
  isplitl [HP]
  · rw [ht]; iexact HP
  isplitl [HO]; · iapply (owes_in x w o c t.succ); iexact HO
  isplitl [HV]
  · iexists _; isplitr; · ipureintro; exact rfl
    iexact HV
  isplitl [HW]
  · iexists _; isplitr; · ipureintro; exact rfl
    iexact HW
  iexists _; isplitr
  · ipureintro; show Inv2 x (w c) c (t.val + 1) X'; rw [ht]; exact hX
  iexact HX

end Cert.KernelIdeal.Pf

end
-- ==== Proof.Shares.lean ====
/-
How a device's holdings are divided: over the devices, over the call's own semaphores, an array into bands of rows, the receive buffer into slots.
-/
module

public import proofs.«01_k».proof.Proof.Obl

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (w : Dev nD → (main_arg1 : Ref sig .tc).ty.Contents (Elt F))
  (o : Dev nD → (main_v16 : Ref sig .tc).ty.Contents (Elt F))

/-- A product over the devices: the device itself, then its three peers. -/
theorem bigSep_dev (c : Dev nD) (Φ : Dev nD → sProp (MT nD τ sig Unit (Elt F) ℕ UU ℕ)) :
    bigSep Finset.univ Φ = iprop(Φ c ∗ Φ (peer c 0) ∗ Φ (peer c 1) ∗ Φ (peer c 2)) := by
  rw [bigSep_univ_at (fun d => Φ d) c, bigSep_others]

/-- A product over the call's own semaphores: the three that count sending, then the four that count receiving. -/
theorem bigSep_own (Φ : SemLoc sig → sProp (MT nD τ sig Unit (Elt F) ℕ UU ℕ)) :
    bigSep Finset.univ (fun k : Fin 7 => Φ (osem k))
      = iprop((Φ (.dma (sendS 0)) ∗ Φ (.dma (sendS 1)) ∗ Φ (.dma (sendS 2))) ∗ bigSep Finset.univ fun s : Fin 4 => Φ (.dma (recvS s))) := by
  have h7 : bigSep Finset.univ (fun k : Fin 7 => Φ (osem k)) = iprop(Φ (.dma (sendS 0)) ∗ Φ (.dma (sendS 1)) ∗ Φ (.dma (sendS 2))
      ∗ Φ (.dma (recvS 0)) ∗ Φ (.dma (recvS 1)) ∗ Φ (.dma (recvS 2)) ∗ Φ (.dma (recvS 3))) :=
    bigSep_univ_eq_bigSepL [(0 : Fin 7), 1, 2, 3, 4, 5, 6] (by decide) (by decide) (fun k : Fin 7 => Φ (osem k))
  have h4 : bigSep Finset.univ (fun s : Fin 4 => Φ (.dma (recvS s)))
      = iprop(Φ (.dma (recvS 0)) ∗ Φ (.dma (recvS 1)) ∗ Φ (.dma (recvS 2)) ∗ Φ (.dma (recvS 3))) :=
    bigSep_univ_eq_bigSepL [(0 : Fin 4), 1, 2, 3] (by decide) (by decide) (fun s : Fin 4 => Φ (.dma (recvS s)))
  rw [h7, h4]
  have h : ∀ a b d r : sProp (MT nD τ sig Unit (Elt F) ℕ UU ℕ), iprop(a ∗ b ∗ d ∗ r) ⊢ iprop((a ∗ b ∗ d) ∗ r) := fun a b d r => by
    iintro ⟨A, B, D, R⟩; iframe
  have h' : ∀ a b d r : sProp (MT nD τ sig Unit (Elt F) ℕ UU ℕ), iprop((a ∗ b ∗ d) ∗ r) ⊢ iprop(a ∗ b ∗ d ∗ r) := fun a b d r => by
    iintro ⟨⟨A, B, D⟩, R⟩; iframe
  exact BI.equiv_iff.mp ⟨h _ _ _ _, h' _ _ _ _⟩

/-- Half a device's array is its four bands of rows. -/
theorem rows_all (c : Dev nD) :
    ((c : Thread nD τ).loc (main_arg0 : Ref sig .tc) ↦{fullShare.right} x c : sProp 𝕄)
      = iprop(rowsPts x c c ∗ rowsPts x c (peer c 0) ∗ rowsPts x c (peer c 1) ∗ rowsPts x c (peer c 2)) := by
  exact (Ring.pointsTo_blocks (ℓ := (c : Thread nD τ).loc (main_arg0 : Ref sig .tc)) (fun s : Fin 4 => (rowsM s).view.set) rows_disjoint rows_cover (x c)).trans
    (bigSep_dev c (fun s => rowsPts x c s))

/-- The receive buffer is its four slots. -/
theorem slots_all (c : Dev nD) (f : (cc0_scratch0 : Ref sig .tc).ty.Contents (Elt F)) :
    ((c : Thread nD τ).loc (cc0_scratch0 : Ref sig .tc) ↦{fullShare} f : sProp 𝕄)
      = iprop(slotPts c c f ∗ slotPts c (peer c 0) f ∗ slotPts c (peer c 1) f ∗ slotPts c (peer c 2) f) := by
  exact (Ring.pointsTo_blocks (ℓ := (c : Thread nD τ).loc (cc0_scratch0 : Ref sig .tc)) (fun s : Fin 4 => (slotM s).view.set) slot_disjoint slot_cover f).trans
    (bigSep_dev c (fun s => slotPts c s f))

/-- Slots held at contents of their own make the receive buffer whole again. -/
theorem slots_join (c : Dev nD) (f₀ : (cc0_scratch0 : Ref sig .tc).ty.Contents (Elt F)) :
    (iprop((∃ f, slotPts c c f) ∗ (∃ f, slotPts c (peer c 0) f) ∗ (∃ f, slotPts c (peer c 1) f) ∗ (∃ f, slotPts c (peer c 2) f)) : sProp 𝕄)
      ⊢ iprop(∃ f, (c : Thread nD τ).loc (cc0_scratch0 : Ref sig .tc) ↦{fullShare} f) := by
  refine BI.Entails.trans ?_ (Ring.pointsTo_blocks_join_exists (ℓ := (c : Thread nD τ).loc (cc0_scratch0 : Ref sig .tc)) (q := fullShare)
    (fun s : Fin 4 => (slotM s).view.set) slot_disjoint slot_cover f₀)
  exact Entails.of_eq (bigSep_dev c (fun s => iprop(∃ f, slotPts c s f))).symm

/-- The buffers the region is about, out of all that a device holds between calls. -/
abbrev used : Finset (DevRef τ sig) := {Proc.devRef .tc main_arg0, Proc.devRef .tc main_arg1, Proc.devRef .tc main_v16, Proc.devRef .tc main_v15}

theorem held_used (c : Dev nD) (V : Valuation τ sig (Elt F)) :
    (StableHlo.held (c : Thread nD τ) (Pipeline.ucRefs τ sig) V : sProp 𝕄)
      ⊢ iprop(((c : Thread nD τ).loc (main_arg0 : Ref sig .tc) ↦{fullShare} V main_arg0) ∗ ((c : Thread nD τ).loc (main_arg1 : Ref sig .tc) ↦{fullShare} V main_arg1)
        ∗ ((c : Thread nD τ).loc (main_v16 : Ref sig .tc) ↦{fullShare} V main_v16) ∗ ((c : Thread nD τ).loc (main_v15 : Ref sig .tc) ↦{fullShare} V main_v15)) := by
  have hsub : used ⊆ Pipeline.ucRefs τ sig := by
    intro b hb
    have : b = Proc.devRef .tc main_arg0 ∨ b = Proc.devRef .tc main_arg1 ∨ b = Proc.devRef .tc main_v16 ∨ b = Proc.devRef .tc main_v15 := by
      simpa [used] using hb
    rcases this with rfl | rfl | rfl | rfl <;> exact Finset.mem_filter.mpr ⟨StableHlo.devRef_mem_tcRefs _, by decide⟩
  rw [StableHlo.held_sub_split (c := (c : Thread nD τ)) hsub V]
  iintro ⟨H, -⟩
  ihave H := (Entails.of_eq (show (StableHlo.held (c : Thread nD τ) used V : sProp 𝕄) = _ from by
    unfold StableHlo.held used
    rw [bigSep_insert (by decide), bigSep_insert (by decide), bigSep_insert (by decide), bigSep_singleton])) $$ H
  iexact H

end Cert.KernelIdeal.Pf

end
-- ==== Proof.Enter.lean ====
/-
Entering the region: the send and receive cells opened, the holdings sorted into what the body needs before its first point.
-/
module

public import proofs.«01_k».proof.Proof.Shares

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (w : Dev nD → (main_arg1 : Ref sig .tc).ty.Contents (Elt F))
  (o : Dev nD → (main_v16 : Ref sig .tc).ty.Contents (Elt F))

/-- For one leg, as the launch deals it: the tokens of its three payments, and the credit of what the peer sends back. -/
def legDealt (c : Dev nD) (d : Fin 3) : sProp 𝕄 :=
  iprop((dutyTok ER (barCell (peer c d)) 0 c ∗ dutyTok ER (recvCell (peer c d) c) 0 0 ∗ dutyTok ER (sendCell c d) 0 0)
    ∗ cred (tallyAt (recvCell c (peer c d)) () N))

/-- What device `c` holds between launch and region, besides its buffers. -/
def dealt (c : Dev nD) : sProp 𝕄 :=
  iprop((∃ K, recs x K) ∗ ow c (O₀ c) ∗ atPos ER (barCell c) 0 ∅ 0 ∗ cred (tallyAt (barCell c) () 3)
    ∗ (bigSep Finset.univ fun k : Fin 7 => openTok ER ((c : Thread nD τ), osem k)) ∗ legDealt c 0 ∗ legDealt c 1 ∗ legDealt c 2)

/-- One leg with its cells open. -/
def legReady (c : Dev nD) (d : Fin 3) : sProp 𝕄 :=
  iprop((dutyTok ER (barCell (peer c d)) 0 c ∗ reached ER (recvCell c (peer c d)) 0) ∗ sendLeg x c d ∗ atPos ER (sendCell c d) 0 ∅ 0
    ∗ wait0 c (peer c d))

/-- What enters the loop beside its arrays and its table. -/
def ready (c : Dev nD) : sProp 𝕄 :=
  iprop(∃ K, recs x K ∗ levAts L lv ∗ cred (tallyAt (barCell c) () 3) ∗ atPos ER (barCell c) 0 ∅ 0
    ∗ (rowsPts x c c ∗ semVal (recvCell c c) 0) ∗ legReady x c 0 ∗ legReady x c 1 ∗ legReady x c 2)

/-- Opening the two cells of a leg. -/
theorem open_leg (K : GSem nD τ sig → ℕ) (c : Dev nD) (d : Fin 3) :
    (iprop(recs x K ∗ legDealt c d ∗ (openTok ER (sendCell c d) ∗ openTok ER (recvCell c (peer c d)))
      ∗ (semVal (sendCell c d) 0 ∗ semVal (recvCell c (peer c d)) 0) ∗ rowsPts x c (peer c d)) : sProp 𝕄)
      ⊢ |={Set.univ}=> legReady x c d := by
  unfold legDealt legReady sendLeg wait0
  iintro ⟨#HR, ⟨⟨HtB, HtR, HtS⟩, HC⟩, ⟨HoS, HoR⟩, ⟨HvS, HvR⟩, Hrows⟩
  ihave #HiS := (inv_at x K (send_mem c d)) $$ HR
  ihave #HiR := (inv_at x K (recv_mem c (peer c d))) $$ HR
  imod (Rounds.cell_open ER (rd x) (g := sendCell c d) (Set.mem_univ (K (sendCell c d)))) $$ [HoS HvS] with ⟨HaS, #HrS⟩
  · isplitr; · iexact HiS
    isplitl [HoS] <;> iassumption
  imod (Rounds.cell_open ER (rd x) (g := recvCell c (peer c d)) (Set.mem_univ (K (recvCell c (peer c d))))) $$ [HoR HvR] with ⟨HaR, #HrR⟩
  · isplitr; · iexact HiR
    isplitl [HoR] <;> iassumption
  imodintro
  isplitl [HtB]
  · isplitl [HtB]; · iexact HtB
    iexact HrR
  isplitl [Hrows HtS HtR]
  · isplitl [Hrows]; · iexact Hrows
    isplitl [HtS]; · iexact HtS
    isplitr; · iexact HrS
    iexact HtR
  isplitl [HaS]; · iexact HaS
  isplitl [HC]; · iexact HC
  iexact HaR

/-- All three legs opened. -/
theorem open_all (c : Dev nD) :
    (iprop(dealt x c ∗ Pipeline.ownSems0 osem c ∗ levAts L lv
      ∗ (c : Thread nD τ).loc (main_arg0 : Ref sig .tc) ↦{fullShare.right} x c) : sProp 𝕄)
      ⊢ |={Set.univ}=> iprop(ready x c ∗ ow c (O₀ c)) := by
  unfold dealt Pipeline.ownSems0
  rw [bigSep_own (fun sm => openTok ER ((c : Thread nD τ), sm)), bigSep_dev c (fun s => openTok ER ((c : Thread nD τ), .dma (recvS s))),
    bigSep_own (fun sm => semVal ((c : Thread nD τ), sm) 0), bigSep_dev c (fun s => semVal ((c : Thread nD τ), .dma (recvS s)) 0), rows_all]
  iintro ⟨⟨⟨%K, #HR⟩, HO, Hat, HC, ⟨⟨Ho0, Ho1, Ho2⟩, -, Hp0, Hp1, Hp2⟩, Hl0, Hl1, Hl2⟩, ⟨⟨Hs0, Hs1, Hs2⟩, Hvc, Hv0, Hv1, Hv2⟩, Hlev, Hrc, Hr0, Hr1, Hr2⟩
  imod (open_leg x K c 0) $$ [Hl0 Ho0 Hp0 Hs0 Hv0 Hr0] with H0
  · isplitr; · iexact HR
    iframe
  imod (open_leg x K c 1) $$ [Hl1 Ho1 Hp1 Hs1 Hv1 Hr1] with H1
  · isplitr; · iexact HR
    iframe
  imod (open_leg x K c 2) $$ [Hl2 Ho2 Hp2 Hs2 Hv2 Hr2] with H2
  · isplitr; · iexact HR
    iframe
  imodintro
  isplitr [HO]
  · unfold ready
    iexists K
    isplitr; · iexact HR
    iframe
  iexact HO

theorem ord_one (c : Dev nD) : ord c 1 = peer c 0 := by revert c; decide
theorem ord_two (c : Dev nD) : ord c 2 = peer c 2 := by revert c; decide
theorem ord_three (c : Dev nD) : ord c 3 = peer c 1 := by revert c; decide

/-- One leg with the slot it hands to the peer. -/
theorem leg_start (c : Dev nD) (d : Fin 3) (f) :
    (iprop(legReady x c d ∗ slotPts c (peer c d) f) : sProp 𝕄) ⊢ iprop(leg0 x c d ∗ wait0 c (peer c d)) := by
  unfold legReady leg0 sigLeg
  iintro ⟨⟨⟨HtB, HrR⟩, HS, HaS, HW⟩, Hsl⟩
  isplitr [HW]
  · isplitr [HS HaS]
    · isplitl [HtB]; · iexact HtB
      isplitl [Hsl]; · iexists f; iexact Hsl
      iexact HrR
    isplitl [HS] <;> iassumption
  iexact HW

/-- Before the first point. -/
theorem enter (c : Dev nD) (f : (cc0_scratch0 : Ref sig .tc).ty.Contents (Elt F)) :
    (iprop(ready x c ∗ tbl c ∗ (c : Thread nD τ).loc (cc0_scratch0 : Ref sig .tc) ↦{fullShare} f) : sProp 𝕄) ⊢ Phi x c 0 := by
  unfold ready Phi ph recvSt idle phA
  rw [slots_all, if_pos rfl, if_pos (by decide), if_pos (by decide), if_pos (by decide), ord_one, ord_two, ord_three]
  iintro ⟨⟨%K, HR, Hlev, HC, Hat, ⟨Hrc, Hvc⟩, Hl0, Hl1, Hl2⟩, Htb, Hfc, Hf0, Hf1, Hf2⟩
  ihave H0 := (leg_start x c 0 f) $$ [Hl0 Hf0]
  · isplitl [Hl0] <;> iassumption
  ihave H1 := (leg_start x c 1 f) $$ [Hl1 Hf1]
  · isplitl [Hl1] <;> iassumption
  ihave H2 := (leg_start x c 2 f) $$ [Hl2 Hf2]
  · isplitl [Hl2] <;> iassumption
  icases H0 with ⟨HL0, HW0⟩
  icases H1 with ⟨HL1, HW1⟩
  icases H2 with ⟨HL2, HW2⟩
  iexists K
  isplitl [HR]; · iexact HR
  isplitl [Htb]; · iexact Htb
  isplitl [Hfc Hrc Hvc]
  · isplitl [Hfc]; · iexists f; iexact Hfc
    isplitl [Hrc] <;> iassumption
  isplitr [HW0 HW1 HW2]
  · iframe
  isplitl [HW0]; · iexact HW0
  isplitl [HW2]; · iexact HW2
  iexact HW1

/-- What the loop leaves behind beside its arrays. -/
def over (c : Dev nD) : sProp 𝕄 := iprop(semVal (barCell c) 0 ∗ (c : Thread nD τ).loc (main_arg0 : Ref sig .tc) ↦{fullShare.right} x c)

/-- After the last point. -/
theorem leave (c : Dev nD) :
    (Phi x c 64 : sProp 𝕄) ⊢ iprop(over x c ∗ Pipeline.ownSems0 osem c
      ∗ ∃ f, (c : Thread nD τ).loc (cc0_scratch0 : Ref sig .tc) ↦{fullShare} f) := by
  unfold Phi ph recvSt idle phC leg2 wait1 over Pipeline.ownSems0
  rw [bigSep_own (fun sm => semVal ((c : Thread nD τ), sm) 0), bigSep_dev c (fun s => semVal ((c : Thread nD τ), .dma (recvS s)) 0), rows_all,
    if_neg (by decide), if_pos rfl, if_neg (by decide), if_neg (by decide), if_neg (by decide), ord_one, ord_two, ord_three]
  iintro ⟨%K, -, -, ⟨Hfc, Hrc, Hvc⟩, ⟨Hb, ⟨Hs0, Hr0⟩, ⟨Hs1, Hr1⟩, ⟨Hs2, Hr2⟩⟩, ⟨Hv0, Hf0⟩, ⟨Hv2, Hf2⟩, ⟨Hv1, Hf1⟩⟩
  isplitl [Hb Hrc Hr0 Hr1 Hr2]
  · iframe
  isplitl [Hs0 Hs1 Hs2 Hvc Hv0 Hv1 Hv2]
  · iframe
  iapply (slots_join c (landed x c))
  isplitl [Hfc]; · iexact Hfc
  isplitl [Hf0]; · iexists _; iexact Hf0
  isplitl [Hf1]; · iexists _; iexact Hf1
  iexists _; iexact Hf2

end Cert.KernelIdeal.Pf

end
-- ==== Proof.Final.lean ====
/-
The output array after the loop: every column tile at what the last round leaves.
-/
module

public import proofs.«01_k».proof.Proof.Enter

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (x : Dev nD → (main_arg0 : Ref sig .tc).ty.Contents (Elt F)) (w : Dev nD → (main_arg1 : Ref sig .tc).ty.Contents (Elt F))
  (o : Dev nD → (main_v16 : Ref sig .tc).ty.Contents (Elt F))

/-- Written back whole, the output array holds what the staging buffer held. -/
theorem write_back (c : Dev nD) (t : Fin grid0.N) (G₀ : (main_v16 : Ref sig .tc).ty.Contents (Elt F)) (X : S1024x8192.Idx → Elt F .f32) :
    (((cfgs (F := F) c).win 2).blk t).view.write (Elt F) G₀ (((cfgs (F := F) c).win 2).cut (grid0.coords t) X) Finset.univ = X := by
  refine funext fun (i : S1024x8192.Idx) => ?_
  have e : ((((cfgs (F := F) c).win 2).blk t).view.emb i : S1024x8192.Idx) = i := by
    refine funext fun (a : Fin 2) => Fin.ext ?_
    match a with
    | 0 => show 0 * 1024 + 1 * (i 0).val = (i 0).val; omega
    | 1 => show 0 * 8192 + 1 * (i 1).val = (i 1).val; omega
  refine (congrArg _ e.symm).trans ?_
  exact View.write_emb_of_mem (v := (((cfgs (F := F) c).win 2).blk t).view) (Val := Elt F) G₀ _ (Finset.mem_univ i)

/-- The output array after the last point. -/
theorem final_2 (c : Dev nD) (G) (h : (rdat x w o c).ArrAt 2 (cfgs (F := F) c).N G) (n : Fin 16) :
    tileB G n = accB x (w c) c 3 n := by
  have hN : (cfgs (F := F) c).N = 63 + 1 := N_0
  rw [hN] at h
  unfold Pipeline.RDat.ArrAt at h
  have hlt : 63 < (cfgs (F := F) c).N := by rw [hN]; decide
  have hfl : ((cfgs (F := F) c).win 2).flush ⟨63, hlt⟩ = true := by
    unfold Pipeline.Window.flush
    rw [show ((cfgs (F := F) c).win 2).isOut = true from rfl]
    simp only [Bool.true_and, Bool.or_eq_true, decide_eq_true_eq]
    exact Or.inl N_0.symm
  simp only [hlt, hfl, dite_true, if_true] at h
  obtain ⟨G₀, X, -, ⟨Y, -, hX⟩, rfl⟩ := h
  have hX : Inv2 x (w c) c 64 X := hX
  rw [← inv2_last x (w c) c hX n]
  exact congrArg (fun Z => tileB Z n) (write_back c ⟨63, _⟩ G₀ X)

end Cert.KernelIdeal.Pf

end
-- ==== Proof.Region.lean ====
/-
The region: what it is entered from, what it leaves, and its four passages.
-/
module

public import proofs.«01_k».proof.Proof.Final

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The arrays at launch. -/
abbrev mx (c : Dev nD) : (main_arg0 : Ref sig .tc).ty.Contents (Elt F) := m ((c : Thread nD τ).loc main_arg0)
abbrev mw (c : Dev nD) : (main_arg1 : Ref sig .tc).ty.Contents (Elt F) := m ((c : Thread nD τ).loc main_arg1)
abbrev mo (c : Dev nD) : (main_v16 : Ref sig .tc).ty.Contents (Elt F) := m ((c : Thread nD τ).loc main_v16)

/-- The host's operations before the call write none of them. -/
theorem V7_launch (c : Dev nD) (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) (h6 : r ∉ hostOps0_6_W) : V7 m c r = m ((c : Thread nD τ).loc r) := by
  rw [V7_of m c r h6, V6_of m c r h5, V5_of m c r h4, V4_of m c r h3, V3_of m c r h2, V2_of m c r h1, V1_of m c r h0]
theorem V7_x (c : Dev nD) : V7 m c main_arg0 = mx m c := V7_launch m c main_arg0 (by decide) (by decide) (by decide) (by decide) (by decide) (by decide) (by decide)
theorem V7_w (c : Dev nD) : V7 m c main_arg1 = mw m c := V7_launch m c main_arg1 (by decide) (by decide) (by decide) (by decide) (by decide) (by decide) (by decide)
theorem V7_o (c : Dev nD) : V7 m c main_v16 = mo m c := V7_launch m c main_v16 (by decide) (by decide) (by decide) (by decide) (by decide) (by decide) (by decide)

theorem arr_0 (c : Dev nD) (q : PosShare TreeShare) (f : (main_arg0 : Ref sig .tc).ty.Contents (Elt F)) :
    (((cfgs (F := F) c).win 0).arr.view.loc (c.tc : Thread nD τ) ↦[((cfgs (F := F) c).win 0).arr.view.set]{q} f : sProp 𝕄)
      = ((c : Thread nD τ).loc (main_arg0 : Ref sig .tc) ↦{q} f) :=
  congrArg (fun S => ((c : Thread nD τ).loc (main_arg0 : Ref sig .tc) ↦[S]{q} f : sProp 𝕄)) (View.set_whole main_arg0)
theorem arr_1 (c : Dev nD) (q : PosShare TreeShare) (f : (main_arg1 : Ref sig .tc).ty.Contents (Elt F)) :
    (((cfgs (F := F) c).win 1).arr.view.loc (c.tc : Thread nD τ) ↦[((cfgs (F := F) c).win 1).arr.view.set]{q} f : sProp 𝕄)
      = ((c : Thread nD τ).loc (main_arg1 : Ref sig .tc) ↦{q} f) :=
  congrArg (fun S => ((c : Thread nD τ).loc (main_arg1 : Ref sig .tc) ↦[S]{q} f : sProp 𝕄)) (View.set_whole main_arg1)
theorem arr_2 (c : Dev nD) (q : PosShare TreeShare) (f : (main_v16 : Ref sig .tc).ty.Contents (Elt F)) :
    (((cfgs (F := F) c).win 2).arr.view.loc (c.tc : Thread nD τ) ↦[((cfgs (F := F) c).win 2).arr.view.set]{q} f : sProp 𝕄)
      = ((c : Thread nD τ).loc (main_v16 : Ref sig .tc) ↦{q} f) :=
  congrArg (fun S => ((c : Thread nD τ).loc (main_v16 : Ref sig .tc) ↦[S]{q} f : sProp 𝕄)) (View.set_whole main_v16)

/-- The arrays the loop works on, one by one. -/
theorem arrays_eq (x : Dev nD → (main_arg0 : Ref sig .tc).ty.Contents (Elt F)) (w : Dev nD → (main_arg1 : Ref sig .tc).ty.Contents (Elt F))
    (o : Dev nD → (main_v16 : Ref sig .tc).ty.Contents (Elt F)) (c : Dev nD) :
    ((rdat x w o c).arrays (rdat x w o c).A : sProp 𝕄)
      = iprop(((c : Thread nD τ).loc (main_arg0 : Ref sig .tc) ↦{fullShare.left} x c) ∗ ((c : Thread nD τ).loc (main_arg1 : Ref sig .tc) ↦{fullShare} w c)
        ∗ ((c : Thread nD τ).loc (main_v16 : Ref sig .tc) ↦{fullShare} o c)) := by
  unfold Pipeline.RDat.arrays
  refine (bigSep_W0 _).trans ?_
  exact congrArg₂ BIBase.sep (arr_0 c fullShare.left (x c)) (congrArg₂ BIBase.sep (arr_1 c fullShare (w c)) (arr_2 c fullShare (o c)))

/-- The same after the last point. -/
theorem arrays_final (x : Dev nD → (main_arg0 : Ref sig .tc).ty.Contents (Elt F)) (w : Dev nD → (main_arg1 : Ref sig .tc).ty.Contents (Elt F))
    (o : Dev nD → (main_v16 : Ref sig .tc).ty.Contents (Elt F)) (c : Dev nD) :
    ((rdat x w o c).arraysAt (cfgs (F := F) c).N : sProp 𝕄)
      ⊢ iprop(((c : Thread nD τ).loc (main_arg0 : Ref sig .tc) ↦{fullShare.left} x c) ∗ ((c : Thread nD τ).loc (main_arg1 : Ref sig .tc) ↦{fullShare} w c)
        ∗ ∃ Z : (main_v16 : Ref sig .tc).ty.Contents (Elt F), ⌜∀ n, tileB Z n = accB x (w c) c 3 n⌝ ∗ ((c : Thread nD τ).loc (main_v16 : Ref sig .tc) ↦{fullShare} Z)) := by
  unfold Pipeline.RDat.arraysAt
  refine (Entails.of_eq (bigSep_W0 _)).trans ?_
  iintro ⟨⟨%A, %hA, HA⟩, ⟨%B, %hB, HB⟩, ⟨%Z, %hZ, HZ⟩⟩
  rw [(rdat x w o c).ArrAt_in 0 rfl] at hA
  rw [(rdat x w o c).ArrAt_in 1 rfl] at hB
  obtain rfl := hA
  obtain rfl := hB
  isplitl [HA]; · iapply (Entails.of_eq (arr_0 c fullShare.left (x c))); iexact HA
  isplitl [HB]; · iapply (Entails.of_eq (arr_1 c fullShare (w c))); iexact HB
  iexists Z
  isplitr; · ipureintro; exact final_2 x w o c Z hZ
  iapply (Entails.of_eq (arr_2 c fullShare Z)); iexact HZ

/-- A device's two halves of its array. -/
theorem halves (c : Dev nD) (f : (main_arg0 : Ref sig .tc).ty.Contents (Elt F)) :
    ((c : Thread nD τ).loc (main_arg0 : Ref sig .tc) ↦{fullShare} f : sProp 𝕄)
      ⊣⊢ iprop(((c : Thread nD τ).loc (main_arg0 : Ref sig .tc) ↦{fullShare.left} f) ∗ ((c : Thread nD τ).loc (main_arg0 : Ref sig .tc) ↦{fullShare.right} f)) :=
  pointsTo_share (PosShare.mem_left_op_right fullShare)

/-- The table held for the loop is the table of device numbers. -/
theorem pref_eq (c : Dev nD) :
    (Pipeline.prefHeld (pcfgs (F := F) 0).pre c (fun _ => fullShare) (adm (F := F) c).1 : sProp 𝕄) = tbl c := by
  unfold Pipeline.prefHeld
  exact bigSep_univ_eq_bigSepL [(0 : Fin 1)] (by decide) (by decide) _

/-- What a device ends with. -/
def endT (c : Dev nD) : sProp 𝕄 :=
  iprop(((c : Thread nD τ).loc (main_arg0 : Ref sig .tc) ↦{fullShare} mx m c) ∗ ((c : Thread nD τ).loc (main_arg1 : Ref sig .tc) ↦{fullShare} mw m c)
    ∗ (∃ Z : (main_v16 : Ref sig .tc).ty.Contents (Elt F), ⌜∀ n, tileB Z n = accB (mx m) (mw m c) c 3 n⌝ ∗ ((c : Thread nD τ).loc (main_v16 : Ref sig .tc) ↦{fullShare} Z))
    ∗ semVal (barCell c) 0)

theorem sem_low : ∀ v : Fin 3, ∀ s : Fin (spec0 v).nbuf, ((spec0 v).sem s).val < 7 := by decide
theorem own_facts : Pipeline.OwnSemFacts spec0 osem := by decide

/-- The staging semaphores' waits lie below whatever is owed. -/
theorem waits (c : Dev nD) : (levAts L lv : sProp 𝕄) ⊢ Pipeline.PerCore.RDat.cellsWaits (Pipeline.pinD (pcfgs (F := F)) (fun c _ => adm c)) (rdats (mx m) (mw m) (mo m)) () 0 c :=
  Pipeline.PerCore.RDat.cellsWaits_intro _ _ _ 0 c fun v s t =>
    MayOwe.of_cut (L := L) (lev := lv) 0 (fun p hp => by rw [Finset.mem_singleton.mp hp, L_tc]; exact Finset.mem_singleton_self _)
      (fun g u hg => by
        have hg : 0 < (if t.val = 0 then O₀ c else 0) g u := hg
        split at hg
        · obtain ⟨d, rfl | rfl⟩ := O₀_pos hg <;> (rw [L_tc]; exact Finset.mem_singleton_self _)
        · exact absurd hg (Nat.lt_irrefl 0))
      (fun p hp => by
        rw [Finset.mem_singleton.mp hp]
        show (if (((cfgs (F := F) c).win v).sem s).val < 7 then 0 else 2) ≤ 0
        rw [if_pos (sem_low v s)])
      (fun g u hg => by
        have hg : 0 < (if t.val = 0 then O₀ c else 0) g u := hg
        split at hg
        · obtain ⟨d, rfl | rfl⟩ := O₀_pos hg
          · rw [lv_recv]; decide
          · exact Nat.one_pos
        · exact absurd hg (Nat.lt_irrefl 0))

/-- From the table and the receive buffer to what is held before the first point. -/
theorem region_in (c : Dev nD) :
    (iprop(ready (mx m) c ∗ Pipeline.prefHeld (pcfgs (F := F) 0).pre c (fun _ => fullShare) (adm (F := F) c).1 ∗ Pipeline.scopedRest (pcfgs (F := F) 0).spec c) : sProp 𝕄)
      ⊢ Phi (mx m) c 0 := by
  iintro ⟨HX, Ht, Hs⟩
  ihave Ht := (Entails.of_eq (pref_eq (F := F) c)) $$ Ht
  ihave Hs := (Entails.of_eq (show (Pipeline.scopedRest (pcfgs (F := F) 0).spec c : sProp 𝕄) = _ from scopedRest0_eq c)) $$ Hs
  icases Hs with ⟨%f, Hs⟩
  iapply (enter (mx m) c f)
  iframe

/-- The region of the call. -/
def reg : Pipeline.PerCore.RDat.RegionSeg (pcfgs (F := F)) (fun c _ => adm c) (rdats (mx m) (mw m) (mo m)) () defs₀ 𝒱₀ L lv 0 where
  win := launch0.win.to₀
  block_pos := block_pos0
  stage_whole := stage_whole0
  K := Fin 7
  osem := osem
  ho := own_facts
  hbody c := obl (mx m) (mw m) (mo m) c
  hwaits c := waits m c
  pre c := iprop(StableHlo.held (c : Thread nD τ) (Pipeline.ucRefs τ sig) (V7 m c) ∗ dealt (mx m) c)
  post c := iprop(endT m c ∗ ow c 0)
  X c := ready (mx m) c
  Y c := over (mx m) c
  Z _ := iprop(emp)
  hentry c := by
    have hu := held_used (F := F) c (V7 m c)
    rw [V7_x, V7_w, V7_o, tb_eq m c] at hu
    rw [show (rdats (mx m) (mw m) (mo m) 0 c) = rdat (mx m) (mw m) (mo m) c from rfl, arrays_eq]
    iintro ⟨⟨Hh, Hd⟩, Hs, Hlev⟩
    ihave Hh := hu $$ Hh
    icases Hh with ⟨Hx, Hw, Ho, Ht⟩
    ihave Hx := (halves c (mx m c)).1 $$ Hx
    icases Hx with ⟨Hl, Hr⟩
    imod (open_all (mx m) c) $$ [Hd Hs Hlev Hr] with ⟨HX, HO⟩
    · iframe
    imodintro
    isplitl [Hl Hw Ho]
    · iframe
    isplitl [Ht]
    · iapply (Entails.of_eq (pref_eq (F := F) c).symm); iexact Ht
    isplitl [HO]
    · iapply (owes_in (mx m) (mw m) (mo m) c 0); iexact HO
    isplitl [HX]; · iexact HX
    iempintro
  hin c := region_in m c
  hout c := by
    refine (show (rdat (mx m) (mw m) (mo m) c).Φ (Fin.last (cfgs (F := F) c).N) ⊢ _ from ?_)
    rw [show (rdat (mx m) (mw m) (mo m) c).Φ (Fin.last (cfgs (F := F) c).N) = Phi (mx m) c 64 from congrArg (Phi (mx m) c) N_0, scopedRest0_eq]
    exact leave (mx m) c
  hexit c := by
    iintro ⟨HA, HO, HY, -⟩
    ihave HA := (arrays_final (mx m) (mw m) (mo m) c) $$ HA
    icases HA with ⟨Hl, Hw, HZ⟩
    unfold over
    icases HY with ⟨Hb, Hr⟩
    ihave HO := (owes_out (mx m) (mw m) (mo m) c _) $$ HO
    ihave Hx := (halves c (mx m c)).2 $$ [Hl Hr]
    · isplitl [Hl] <;> iassumption
    imodintro
    unfold endT
    isplitr [HO]
    · iframe
    iexact HO

end Cert.KernelIdeal.Pf

end
-- ==== Proof.Launch.lean ====
/-
The launch: the ghost state funded for every device at once, and each device dealt its part.
-/
module

public import proofs.«01_k».proof.Proof.Region

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to each cell at launch -/

theorem owed_at {g g' : GSem nD τ sig} (n : ℕ) : (tallyAt g () n : CellTallies nD τ sig Unit) g' () = if g' = g then n else 0 := by
  rw [tallyAt_apply]
  by_cases h : g' = g
  · rw [if_pos ⟨h, rfl⟩, if_pos h]
  · rw [if_neg (fun k => h k.1), if_neg h]

theorem bar_bar (c p : Dev nD) : (barCell c = barCell p) = (c = p) :=
  propext ⟨fun h => congrArg (fun g : GSem nD τ sig => g.1.1) h, fun h => h ▸ rfl⟩
theorem recv_recv (c p : Dev nD) (s s' : Fin 4) : (recvCell c s = recvCell p s') = (c = p ∧ s = s') :=
  propext ⟨fun h => ⟨congrArg (fun g : GSem nD τ sig => g.1.1) h, by
    have h2 : (SemLoc.dma (recvS s) : SemLoc sig) = .dma (recvS s') := congrArg Prod.snd h
    exact (by decide : ∀ s s' : Fin 4, (SemLoc.dma (recvS s) : SemLoc sig) = .dma (recvS s') → s = s') s s' h2⟩, fun h => h.1 ▸ h.2 ▸ rfl⟩
theorem reg_ne_dma (k : Sem sig) (k' : DmaSem sig) : (SemLoc.reg k : SemLoc sig) ≠ .dma k' := by intro h; cases h
theorem bar_recv (c p : Dev nD) (s : Fin 4) : (barCell c = recvCell p s) = False :=
  propext ⟨fun h => reg_ne_dma _ _ (congrArg Prod.snd h), False.elim⟩
theorem recv_bar (c p : Dev nD) (s : Fin 4) : (recvCell p s = barCell c) = False :=
  propext ⟨fun h => reg_ne_dma _ _ (congrArg Prod.snd h).symm, False.elim⟩

theorem O₀_at (p : Dev nD) (g : GSem nD τ sig) : O₀ p g ()
    = (if g = recvCell (peer p 2) p then N else 0) + (if g = recvCell (peer p 1) p then N else 0) + (if g = recvCell (peer p 0) p then N else 0)
      + (if g = barCell (peer p 2) then 1 else 0) + (if g = barCell (peer p 1) then 1 else 0) + (if g = barCell (peer p 0) then 1 else 0) := by
  unfold O₀ O₁
  simp only [Pi.add_apply, Finsupp.add_apply, owed_at, Pi.zero_apply, Finsupp.zero_apply, Nat.zero_add]

/-- Each barrier is owed one signal by each of three devices, -/
theorem count_bar : ∀ c : Dev nD, (∑ p : Dev nD, ((if c = peer p 2 then 1 else 0) + (if c = peer p 1 then 1 else 0) + (if c = peer p 0 then 1 else 0))) = 3 := by
  decide
/-- each receive cell one transfer by the device it is for. -/
theorem count_recv : ∀ (c : Dev nD) (d : Fin 3), (∑ p : Dev nD, ((if c = peer p 2 ∧ peer c d = p then 1 else 0)
    + (if c = peer p 1 ∧ peer c d = p then 1 else 0) + (if c = peer p 0 ∧ peer c d = p then 1 else 0))) = 1 := by
  decide

theorem launch_bar (c : Dev nD) :
    tallyOn (barCell c) (launchCredit (Pipeline.owing O₀) 0 (barCell c)) = (tallyAt (barCell c) () 3 : CellTallies nD τ sig Unit) := by
  unfold tallyAt
  refine congrArg _ (Finsupp.ext fun u => ?_)
  cases u
  rw [Pipeline.launchCredit_owing, Finsupp.single_eq_same, ← count_bar c]
  refine Finset.sum_congr rfl fun p _ => ?_
  rw [O₀_at]
  simp only [bar_recv, bar_bar, if_false, Nat.zero_add]

theorem launch_recv (c : Dev nD) (d : Fin 3) :
    tallyOn (recvCell c (peer c d)) (launchCredit (Pipeline.owing O₀) 0 (recvCell c (peer c d)))
      = (tallyAt (recvCell c (peer c d)) () N : CellTallies nD τ sig Unit) := by
  unfold tallyAt
  refine congrArg _ (Finsupp.ext fun u => ?_)
  cases u
  rw [Pipeline.launchCredit_owing, Finsupp.single_eq_same]
  refine Eq.trans ?_ (Nat.mul_one N)
  rw [← count_recv c d, Finset.mul_sum]
  refine Finset.sum_congr rfl fun p _ => ?_
  rw [O₀_at]
  simp only [recv_bar, recv_recv, if_false, Nat.add_zero, Nat.mul_add, mul_ite, Nat.mul_one, Nat.mul_zero]

theorem creds (c : Dev nD) :
    (Pipeline.launchCred O₀ c : sProp 𝕄) ⊢ iprop(cred (tallyAt (barCell c) () 3) ∗ cred (tallyAt (recvCell c (peer c 0)) () N)
      ∗ cred (tallyAt (recvCell c (peer c 1)) () N) ∗ cred (tallyAt (recvCell c (peer c 2)) () N)) := by
  have hne : ∀ (c : Dev nD) (d e : Fin 3), d ≠ e → (SemLoc.dma (recvS (peer c d)) : SemLoc sig) ≠ .dma (recvS (peer c e)) := by decide
  unfold Pipeline.launchCred
  rw [bigSep_univ_at _ (SemLoc.reg barS), launch_bar]
  refine sep_mono_right ?_
  rw [← launch_recv, ← launch_recv, ← launch_recv,
    bigSep_erase (i := SemLoc.dma (recvS (peer c 0))) (Finset.mem_erase.mpr ⟨fun h => reg_ne_dma _ _ h.symm, Finset.mem_univ _⟩),
    bigSep_erase (i := SemLoc.dma (recvS (peer c 1)))
      (Finset.mem_erase.mpr ⟨hne c 1 0 (by decide), Finset.mem_erase.mpr ⟨fun h => reg_ne_dma _ _ h.symm, Finset.mem_univ _⟩⟩)]
  refine sep_mono_right (sep_mono_right ?_)
  exact bigSep_elim (Finset.mem_erase.mpr ⟨hne c 2 1 (by decide), Finset.mem_erase.mpr ⟨hne c 2 0 (by decide),
    Finset.mem_erase.mpr ⟨fun h => reg_ne_dma _ _ h.symm, Finset.mem_univ _⟩⟩⟩)

/-! ## The tokens -/

/-- The token of one of the three payments that device `c` makes on its leg `d`: to the peer's barrier, to the peer's receive
    cell, to its own send cell. -/
def tokOf (i : Dev nD × Fin 3 × Fin 3) : GSem nD τ sig × ℕ × Dev nD :=
  match i.2.2 with
  | 0 => (barCell (peer i.1 i.2.1), 0, i.1)
  | 1 => (recvCell (peer i.1 i.2.1) i.1, 0, 0)
  | 2 => (sendCell i.1 i.2.1, 0, 0)

/-- The leg from device `c` to device `p`. -/
def legTo (c p : Fin 4) : Fin 3 := ⟨(p - c - 1).val % 3, Nat.mod_lt _ (by decide)⟩

/-- Which payment a token is for. -/
def tokBack (t : GSem nD τ sig × ℕ × Dev nD) : Dev nD × Fin 3 × Fin 3 :=
  match t.1.2 with
  | .reg _ => (t.2.2, legTo t.2.2 t.1.1.1, 0)
  | .dma k => if k.val < 7 then (t.1.1.1, legOf k, 2) else (slotOf k, legTo (slotOf k) t.1.1.1, 1)

theorem tokBack_tokOf : ∀ i, tokBack (tokOf i) = i := by decide

def tokEmb : Dev nD × Fin 3 × Fin 3 ↪ GSem nD τ sig × ℕ × Dev nD :=
  ⟨tokOf, Function.LeftInverse.injective tokBack_tokOf⟩

def allToks : Finset (GSem nD τ sig × ℕ × Dev nD) := Finset.univ.map tokEmb

def legToks (c : Dev nD) (d : Fin 3) : sProp 𝕄 :=
  iprop(dutyTok ER (barCell (peer c d)) 0 c ∗ dutyTok ER (recvCell (peer c d) c) 0 0 ∗ dutyTok ER (sendCell c d) 0 0)

theorem bigSep_three (Φ : Fin 3 → sProp (MT nD τ sig Unit (Elt F) ℕ UU ℕ)) : bigSep Finset.univ Φ = iprop(Φ 0 ∗ Φ 1 ∗ Φ 2) :=
  bigSep_univ_eq_bigSepL [(0 : Fin 3), 1, 2] (by decide) (by decide) Φ

theorem toks_eq : bigSep allToks (fun t => (dutyTok ER t.1 t.2.1 t.2.2 : sProp 𝕄))
    = bigSep Finset.univ fun c : Dev nD => iprop(legToks c 0 ∗ legToks c 1 ∗ legToks c 2) := by
  unfold allToks
  rw [bigSep_map, bigSep_univ_prod]
  refine bigSep_congr fun c _ => ?_
  rw [bigSep_univ_prod, bigSep_three, bigSep_three, bigSep_three, bigSep_three]
  rfl

theorem disjoint_cells : Disjoint (barCells : Finset (GSem nD τ sig)) scCells := by
  rw [Finset.disjoint_left]
  intro g hb hs
  obtain ⟨c, -, rfl⟩ := Finset.mem_map.mp hb
  obtain ⟨ck, -, h⟩ := Finset.mem_map.mp hs
  exact reg_ne_dma _ _ (congrArg Prod.snd h).symm

theorem sems_distinct : Pipeline.SpecSemsDistinct spec0 := by decide

theorem cells_inj : Function.Injective (Pipeline.PerCore.cellOf (nD := nD) (τ := τ) (Pipeline.pinD (pcfgs (F := F)) (fun c _ => adm c))) :=
  Pipeline.PerCore.cellOf_injective _
    (fun c p => match p with
      | 0 => sems_distinct)
    (fun _ p p' h => absurd (Subsingleton.elim p p') h)

/-- The launch's element: the loop's cells and the exchange's. -/
def u₀ : UU :=
  (initOf (Pipeline.PerCore.cells (Pipeline.pinD (pcfgs (F := F)) (fun c _ => adm c)) cells_inj)
    (Pipeline.PerCore.launchToks (Pipeline.pinD (pcfgs (F := F)) (fun c _ => adm c)) cells_inj), launchOf barCells scCells allToks)

end Cert.KernelIdeal.Pf

end
-- ==== Proof.Deal.lean ====
/-
The run: from any memory every device ends with its arguments as launched, its output tiles at what the last round leaves, and no counter raised.
-/
module

public import proofs.«01_k».proof.Proof.Launch

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- `X` on device `c₀`, nothing elsewhere. -/
def only (c₀ : Dev nD) (X : sProp (MT nD τ sig Unit (Elt F) ℕ UU ℕ)) (c : Dev nD) : sProp 𝕄 := if c = c₀ then X else BI.emp

theorem bigSep_only (c₀ : Dev nD) (X : sProp (MT nD τ sig Unit (Elt F) ℕ UU ℕ)) : bigSep Finset.univ (only c₀ X) = X := by
  rw [bigSep_univ_at (only c₀ X) c₀]
  have h : bigSep (Finset.univ.erase c₀) (only c₀ X) = bigSep (Finset.univ.erase c₀) (fun _ => (BI.emp : sProp 𝕄)) :=
    bigSep_congr fun c hc => if_neg (Finset.ne_of_mem_erase hc)
  rw [h, bigSep_emp_const, show only c₀ X c₀ = X from if_pos rfl]
  exact BI.equiv_iff.mp sep_emp

/-- The exchange's element waits on device 0 until it is dealt out. -/
def G : Dev nD → sProp 𝕄 := only 0 (BI.own (ER (launchOf barCells scCells allToks)))

/-- What a device holds at the start of its program. -/
def startT (c : Dev nD) : sProp 𝕄 := iprop(StableHlo.held (c : Thread nD τ) (Pipeline.ucRefs τ sig) (V0 m c) ∗ dealt (mx m) c)

/-- The part of it that is the device's own from the first. -/
def bundle (c : Dev nD) : sProp 𝕄 :=
  iprop(StableHlo.held (c : Thread nD τ) (Pipeline.ucRefs τ sig) (V0 m c) ∗ owes (c : Thread nD τ) (O₀ c) ∅
    ∗ cred (tallyAt (barCell c) () 3) ∗ cred (tallyAt (recvCell c (peer c 0)) () N)
    ∗ cred (tallyAt (recvCell c (peer c 1)) () N) ∗ cred (tallyAt (recvCell c (peer c 2)) () N))

/-- The part dealt to it. -/
def share (c : Dev nD) : sProp 𝕄 :=
  iprop(atPos ER (barCell c) 0 ∅ 0 ∗ (bigSep Finset.univ fun k : Fin 7 => openTok ER ((c : Thread nD τ), osem k)) ∗ (legToks c 0 ∗ legToks c 1 ∗ legToks c 2))

theorem start_intro (κ : GSem nD τ sig → ℕ) (c : Dev nD) : (iprop(recs (mx m) κ ∗ (share c ∗ bundle m c)) : sProp 𝕄) ⊢ startT m c := by
  unfold bundle share startT dealt legDealt legToks ow
  iintro ⟨HR, ⟨Hat, Ho, H0, H1, H2⟩, Hh, HO, HB, HC0, HC1, HC2⟩
  isplitl [Hh]; · iexact Hh
  isplitl [HR]; · iexists κ; iexact HR
  isplitl [HO]; · iexists ∅; iexact HO
  iframe

theorem unscoped_eq : ∀ sm : SemLoc sig, sm.isScoped .tc = false → sm = .reg barS := by decide

/-- A core's launch holdings: its own part, its barrier counter, and device 0's keeping. -/
theorem core (c : Dev nD) : (iprop(unscopedBufs c (fun b => m ((c.tc : Thread nD τ).loc b)) ∗ unscopedSems0 c
      ∗ owes (c.tc : Thread nD τ) (O₀ c) ∅ ∗ Pipeline.launchCred O₀ c ∗ prngReg c (ρ c) ∗ G c) : sProp 𝕄)
    ⊢ iprop(bundle m c ∗ (semVal (barCell c) 0 ∗ G c)) := by
  have hb : (unscopedBufs c (fun b => m ((c.tc : Thread nD τ).loc b)) : sProp 𝕄) = StableHlo.held (c : Thread nD τ) (Pipeline.ucRefs τ sig) (V0 m c) :=
    Pipeline.unscopedBufs_held c (V0 m c)
  have hs : (unscopedSems0 c : sProp 𝕄) ⊢ semVal (barCell c) 0 := by
    unfold unscopedSems0
    exact bigSep_elim (i := SemLoc.reg barS) (by decide)
  rw [hb]
  unfold bundle
  iintro ⟨Hh, Hus, HO, Hcr, -, HG⟩
  ihave Hc := (creds (F := F) c) $$ Hcr
  ihave Hb := hs $$ Hus
  isplitr [Hb HG]
  · iframe
  isplitl [Hb] <;> iassumption

theorem apart {Φ Ψ : Dev nD → sProp (MT nD τ sig Unit (Elt F) ℕ UU ℕ)} :
    bigSep Finset.univ (fun c => iprop(Φ c ∗ Ψ c)) ⊢ iprop(bigSep Finset.univ Φ ∗ bigSep Finset.univ Ψ) := Entails.of_eq (bigSep_sep' _ _ _)
theorem together {Φ Ψ : Dev nD → sProp (MT nD τ sig Unit (Elt F) ℕ UU ℕ)} :
    iprop(bigSep Finset.univ Φ ∗ bigSep Finset.univ Ψ) ⊢ bigSep Finset.univ (fun c => iprop(Φ c ∗ Ψ c)) := Entails.of_eq (bigSep_sep' _ _ _).symm

/-- The global dealing. -/
theorem init :
    (iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c)) ∗ levAts L lv) : sProp 𝕄)
      ⊢ |={Set.univ}=> bigSep Finset.univ (startT m) := by
  have hv : (bigSep Finset.univ (fun c : Dev nD => semVal (barCell c) 0) : sProp 𝕄) ⊢ bigSep barCells (fun g => semVal g 0) :=
    Entails.of_eq (bigSep_map (s := Finset.univ) barEmb (Φ := fun g : GSem nD τ sig => (semVal g 0 : sProp 𝕄))).symm
  have hat : (bigSep barCells (fun g => atPos ER g 0 ∅ 0) : sProp 𝕄) ⊢ bigSep Finset.univ (fun c : Dev nD => atPos ER (barCell c) 0 ∅ 0) :=
    Entails.of_eq (bigSep_map (s := Finset.univ) barEmb (Φ := fun g : GSem nD τ sig => (atPos ER g 0 ∅ 0 : sProp 𝕄)))
  have hopen : (bigSep scCells (fun g => openTok ER g) : sProp 𝕄)
      ⊢ bigSep Finset.univ (fun c : Dev nD => bigSep Finset.univ fun k : Fin 7 => openTok ER ((c : Thread nD τ), osem k)) :=
    Entails.of_eq (by rw [bigSep_map, bigSep_univ_prod]; rfl)
  have hall : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c) : sProp 𝕄)
      ⊢ bigSep Finset.univ fun c : Dev nD => iprop(bundle m c ∗ (semVal (barCell c) 0 ∗ G c)) := bigSep_mono fun c _ => core m ρ c
  iintro ⟨H, -⟩
  ihave H := hall $$ H
  ihave H := apart $$ H
  icases H with ⟨HB, H⟩
  ihave H := apart $$ H
  icases H with ⟨Hv, HG⟩
  ihave Hu := (show (bigSep Finset.univ (G (F := F)) : sProp 𝕄) ⊢ BI.own (ER (launchOf barCells scCells allToks)) from Entails.of_eq (bigSep_only 0 _)) $$ HG
  imod (Rounds.fund_launch ER (rd (mx m)) disjoint_cells (fun g _ h => h) allToks) $$ [Hv Hu] with ⟨%κ, -, #Hinv, #Hr, Hat, Hopen, Htok⟩
  · isplitl [Hv]
    · iapply hv $$ Hv
    · iexact Hu
  imodintro
  iapply (bigSep_with_persistent (R := recs (mx m) κ) (Φ := fun c => iprop(share c ∗ bundle m c)) fun c _ => start_intro m κ c)
  isplitr
  · unfold recs
    isplitr; · iexact Hinv
    iexact Hr
  iapply together
  isplitr [HB]
  · unfold share
    iapply together; isplitl [Hat]; · iapply hat $$ Hat
    iapply together; isplitl [Hopen]; · iapply hopen $$ Hopen
    iapply (Entails.of_eq (toks_eq (F := F))) $$ Htok
  · iexact HB

end Cert.KernelIdeal.Pf

end
-- ==== Proof.Run.lean ====
/-
The run: from any memory every device ends with its arguments as launched, its output tiles at what the last round leaves, and no counter raised.
-/
module

public import proofs.«01_k».proof.Proof.Deal

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- What rides along while the host computes. -/
abbrev riding (_ : Fin 2) (c : Dev nD) : sProp 𝕄 := dealt (mx m) c

/-- The program's items on core `c`. -/
abbrev segs (c : Dev nD) : List (Pipeline.PerCore.RDat.Seg (pcfgs (F := F)) (fun c _ => adm c) (rdats (mx m) (mw m) (mo m)) () defs₀ 𝒱₀ L lv) :=
  [.host (seg0 m 𝒱₀ L lv (riding m) c), .host (seg1 m 𝒱₀ L lv (riding m)), .host (seg2 m 𝒱₀ L lv (riding m)), .host (seg3 m 𝒱₀ L lv (riding m)),
    .host (seg4 m 𝒱₀ L lv (riding m)), .host (seg5 m 𝒱₀ L lv (riding m)), .host (seg6 m 𝒱₀ L lv (riding m)), .region (reg m)]

/-- What device `c` ends with. -/
abbrev Ends (c : Dev nD) (mem : (ℓ : Loc nD τ sig) → Buf (Elt F) ℓ) : Prop :=
  mem ((c.tc : Thread nD τ).loc main_arg0) = mx m c ∧ mem ((c.tc : Thread nD τ).loc main_arg1) = mw m c
    ∧ ∀ n, tileB (mem ((c.tc : Thread nD τ).loc main_v16)) n = accB (mx m) (mw m c) c 3 n

set_option backward.isDefEq.respectTransparency.types false in
/-- Every weakly fair execution ends, at such contents, all counters at zero. -/
theorem run_main : θ_run defs (onTc (τ := τ) (main (F := F))) ⟨m, fun _ => 0, ρ⟩
    (fun r => (∀ c : Dev nD, Ends m c r.2.mem) ∧ r.2.sem = fun _ => 0) := by
  refine Pipeline.PerCore.RDat.θ_run_regions_kit_sems (pcfgs (F := F)) (fun c _ => adm c) (rdats (mx m) (mw m) (mo m)) () cells_inj EP defs₀ 𝒱₀ L lv m ρ main
    (segs m)
    (fun c Q => by
      rewrite [main_chain c, Pipeline.PerCore.RDat.Seg.run_eq_chain,
        show (segs m c).map Pipeline.PerCore.RDat.Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          Prog.lift (.customCall (Pipeline.entry 0) ()) ] from rfl]
      exact .rfl)
    (fun c => by
      simp only [segs, Pipeline.PerCore.RDat.Seg.pipes_host, Pipeline.PerCore.RDat.Seg.pipes_region, Pipeline.PerCore.RDat.Seg.pipes_nil]; decide)
    (O₀ := O₀) (hL := L_of_ne) (G := G) (u₀ := u₀ (F := F))
    (hu₀ := by
      unfold u₀ G
      rw [bigSep_only]
      iintro Hu
      ihave H := (ownU_pair _ _) $$ Hu
      icases H with ⟨HP, HX⟩
      imodintro
      isplitl [HP]; · iexact HP
      iexact HX)
    (T₀ := startT m) (Tₙ := endT m)
    (hch := fun c => ⟨.rfl, .rfl, .rfl, .rfl, .rfl, .rfl, .rfl, .rfl, .rfl⟩)
    (hinit := init m ρ)
    (QY := fun c s => Ends m c s.mem ∧ s.sem (barCell c) = 0)
    (hfin := fun c s' => by
      unfold endT
      iintro ⟨⟨Hx, Hw, ⟨%Z, %hZ, Ho⟩, Hb⟩, HSI⟩
      icombine HSI Hx gives %hx
      icombine HSI Hw gives %hw
      icombine HSI Ho gives %ho
      icombine HSI Hb gives %hb
      imodintro
      isplitr
      · ipureintro
        refine ⟨⟨Buf.eq_of_forall_mem_univ hx, Buf.eq_of_forall_mem_univ hw, fun n => ?_⟩, by simpa using hb⟩
        have e := Buf.eq_of_forall_mem_univ ho
        exact (congrArg (fun Y => tileB Y n) e).trans (hZ n)
      iexact HSI)
    (hQ := fun s h hs => ⟨fun c => (h c).1,
      sem_eq_zero hs fun c sm hsm => by
        obtain rfl := unscoped_eq sm hsm
        exact (h c).2⟩)

end Cert.KernelIdeal.Pf

end
-- ==== Proof.Ref.lean ====
/- The run of the reference on its one device: the product, then the maximum with zero, the arguments kept. -/
module

public import proofs.«01_k».proof.Proof.Gen.ReferenceIdeal
public import Idealize.ShloMosaic.Lib.StableHlo.Run
public import Idealize.ShloMosaic.Lib.Quiescent

@[expose] public section

noncomputable section

namespace Cert.ReferenceIdeal.Pf

open Cert.ReferenceIdeal Cert.ReferenceIdeal.Gen
open Idealize.ShloMosaic Idealize.ShloMosaic.TcCoe Idealize.ShloMosaic.StableHlo Idealize.SL.Sem

variable {F : FTy → Type} [FloatOps F]

/-- The lines of the program: the product, the zero, the zero everywhere, the maximum. -/
abbrev lines : List (HloOp τ sig (Elt F)) :=
  [ binary main_arg0 main_arg1 main_v0 (fun l r => Host.dotGeneral dot_S4096x4096_S4096x8192_S4096x8192_1_0_0_1_n_n none l r),
    nullary main_cst (constant S_ .f32 0x00000000#32),
    unary main_cst main_v1 (broadcastInDim S4096x8192 ![] bcast_S_S4096x8192),
    binary main_v0 main_v1 main_v2 maximumf ]

/-- What the reference computes of its two arguments. -/
def refOut (X : FVec F S4096x4096 .f32) (W : FVec F S4096x8192 .f32) : FVec F S4096x8192 .f32 :=
  maximumf (Host.dotGeneral dot_S4096x4096_S4096x8192_S4096x8192_1_0_0_1_n_n none X W)
    (broadcastInDim S4096x8192 ![] bcast_S_S4096x8192 (constant S_ .f32 0x00000000#32))

/-- After the lines the result's buffer holds that value. -/
theorem result_after (V : Valuation τ sig (Elt F)) :
    after lines V (main_v2 : DevRef τ sig) = refOut (V (main_arg0 : DevRef τ sig)) (V (main_arg1 : DevRef τ sig)) := by
  after_results
  rfl

/-- The first argument's buffer is as it was, -/
theorem first_after (V : Valuation τ sig (Elt F)) : after lines V (main_arg0 : DevRef τ sig) = V (main_arg0 : DevRef τ sig) := by
  after_results

/-- and so is the second's. -/
theorem second_after (V : Valuation τ sig (Elt F)) : after lines V (main_arg1 : DevRef τ sig) = V (main_arg1 : DevRef τ sig) := by
  after_results

/-- Every line works on buffers of the core. -/
theorem lines_sub : (lines : List (HloOp τ sig (Elt F))).Forall fun op => op.bufs ⊆ tcRefs τ sig :=
  ⟨binary_bufs_sub .., nullary_bufs_sub .., unary_bufs_sub .., binary_bufs_sub ..⟩

/-- Every weakly fair execution of the reference ends, its result at `refOut` of the arguments, the arguments as
    launched, no counter raised. -/
theorem run_ref (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v2)
            = refOut (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run defs _ _).mono (fun r h => ⟨fun c => ⟨(h c main_v2).trans (result_after _), (h c main_arg0).trans (first_after _),
      (h c main_arg1).trans (second_after _)⟩, sem_eq_zero_of_no_sems rfl r.2⟩)
    (run_seq (by decide) (by decide) defs main (fun _ => lines) (fun _ => rfl) (fun _ => lines_sub) m ρ)

end Cert.ReferenceIdeal.Pf

end
-- ==== Proof.Value.lean ====
/- What the kernel's payloads hold at an index, and what the reference holds there, over the extended reals. -/
module

public import proofs.«01_k».proof.Proof.Tiles
public import proofs.«01_k».proof.Proof.Ref
public import Idealize.ShloMosaic.Lib.Pointwise

@[expose] public section

set_option maxRecDepth 16384

noncomputable section

namespace Cert.KernelIdeal.Pf

open Cert.KernelIdeal Cert.KernelIdeal.Gen
open Idealize.ShloMosaic

/-- The first payload is a row of the one block times a column of the other. -/
theorem pay1_apply (a : FVec Ideal S1024x1024 .f32) (b : FVec Ideal S1024x512 .f32) (r : Fin 1024) (l : Fin 512) :
    k0_pay1 a b (ix2 r l) = ∑ k : Fin 1024, a (ix2 r k) * b (ix2 k l) := by
  pointwise [k0_pay1]

/-- The second adds such a product to what was there. -/
theorem pay2_apply (acc : FVec Ideal S1024x512 .f32) (a : FVec Ideal S1x1024x1024 .f32) (b : FVec Ideal S1024x512 .f32)
    (r : Fin 1024) (l : Fin 512) :
    k0_pay2 acc a b (ix2 r l) = acc (ix2 r l) + ∑ k : Fin 1024, a (ix3 0 r k) * b (ix2 k l) := by
  pointwise [k0_pay2]

/-- The third adds one too, and takes the maximum with zero. -/
theorem pay3_apply (acc : FVec Ideal S1024x512 .f32) (a : FVec Ideal S1x1024x1024 .f32) (b : FVec Ideal S1024x512 .f32)
    (r : Fin 1024) (l : Fin 512) :
    k0_pay3 acc a b (ix2 r l) = max (acc (ix2 r l) + ∑ k : Fin 1024, a (ix3 0 r k) * b (ix2 k l)) 0 := by
  pointwise [k0_pay3]

/-- The reference's entry: a row of the one array times a column of the other, and the maximum with zero. -/
theorem ref_apply (X : FVec Ideal Cert.ReferenceIdeal.S4096x4096 .f32) (W : FVec Ideal Cert.ReferenceIdeal.S4096x8192 .f32)
    (r : Fin 4096) (l : Fin 8192) :
    Cert.ReferenceIdeal.Pf.refOut X W (ix2 r l) = max (∑ k : Fin 4096, X (ix2 r k) * W (ix2 k l)) 0 := by
  pointwise [Cert.ReferenceIdeal.Pf.refOut]

end Cert.KernelIdeal.Pf

end
-- ==== Proof.Equation.lean ====
/- The equation: every device's output block is its block of rows of the reference's result. -/
module

public import proofs.«01_k».proof.Proof.Data
public import proofs.«01_k».proof.Proof.Value
public import Idealize.ShloMosaic.Lib.Layout
public import Idealize.ShloMosaic.Lib.Pipeline.ValueKit

@[expose] public section

set_option maxRecDepth 16384

noncomputable section

namespace Cert.KernelIdeal.Pf

open Cert.KernelIdeal Cert.KernelIdeal.Gen
open Idealize.ShloMosaic

section Sums

variable (X : FVec Ideal Cert.ReferenceIdeal.S4096x4096 .f32) (W : FVec Ideal S4096x8192 .f32)

/-- The part of the product's entry at row `r` and column `l` that the `s`-th quarter of the contracted axis gives. -/
def part (r : Fin 4096) (l : Fin 8192) (s : Fin 4) : EReal :=
  ∑ k : Fin 1024, X (ix2 r (⟨s.val * 1024 + k.val, by omega⟩ : Fin 4096)) * W (ix2 (⟨s.val * 1024 + k.val, by omega⟩ : Fin 4096) l)

/-- The four parts add up to the entry. -/
theorem sum_part (r : Fin 4096) (l : Fin 8192) :
    ∑ s : Fin 4, part X W r l s = ∑ k : Fin 4096, X (ix2 r k) * W (ix2 k l) :=
  Fin.sum_mul_add_congr fun _ _ _ => rfl

/-- A device goes through the quarters in an order of its own, and through each once. -/
theorem sum_ord (c : Dev nD) (f : Fin 4 → EReal) : f (ord c 0) + f (ord c 1) + f (ord c 2) + f (ord c 3) = ∑ s : Fin 4, f s := by
  rw [← Fin.sum_univ_four fun j => f (ord c j)]
  exact (Equiv.ofBijective (ord c) (Finite.injective_iff_bijective.mp fun a b h => ord_inj c a b h)).sum_comp f

end Sums

section Blocks

variable {x : Dev nD → S4096x1024.Idx → Elt Ideal .f32} {X : FVec Ideal Cert.ReferenceIdeal.S4096x4096 .f32}
  {W : FVec Ideal S4096x8192 .f32}

/-- Every device holds its block of columns of `X`. -/
def Cut (x : Dev nD → S4096x1024.Idx → Elt Ideal .f32) (X : FVec Ideal Cert.ReferenceIdeal.S4096x4096 .f32) : Prop :=
  ∀ (c : Dev nD) (r : Fin 4096) (k : Fin 1024),
    x c (ix2 r k) = X (ix2 r (⟨c.val * 1024 + k.val, by have h : c.val < 4 := c.isLt; omega⟩ : Fin 4096))

theorem cut_of_block (h : ∀ c : Dev nD, x c = Layout.block ⟨2, ![4096, 1024]⟩ ⟨2, ![4096, 4096]⟩ 1 4 c X) : Cut x X := by
  intro c r k
  rw [h c]
  exact congrArg X (funext fun a => Fin.ext (match a with | 0 => rfl | 1 => rfl))

/-- Row `r` of device `c`'s block of rows. -/
abbrev rowOf (c : Dev nD) (r : Fin 1024) : Fin 4096 := ⟨c.val * 1024 + r.val, by have h : c.val < 4 := c.isLt; omega⟩

/-- Column `l` of column tile `n`. -/
abbrev colOf (n : Fin 16) (l : Fin 512) : Fin 8192 := ⟨n.val * 512 + l.val, by omega⟩

/-- What the first round adds up. -/
theorem own_part (hx : Cut x X) (c : Dev nD) (n : Fin 16) (r : Fin 1024) (l : Fin 512) :
    ∑ k : Fin 1024, xb (F := Ideal) (x c) c (ix2 r k) * wb (F := Ideal) W (ord c 0) n (ix2 k l)
      = part X W (rowOf c r) (colOf n l) (ord c 0) := by
  refine Finset.sum_congr rfl fun k _ => ?_
  refine congrArg₂ (· * ·) ?_ rfl
  rw [ord_zero]
  exact hx c (rowOf c r) k

/-- What a later round adds. -/
theorem slot_part (hx : Cut x X) (c : Dev nD) (s : Fin 4) (n : Fin 16) (r : Fin 1024) (l : Fin 512) :
    ∑ k : Fin 1024, slotB (F := Ideal) (landed x c) s (ix3 0 r k) * wb (F := Ideal) W s n (ix2 k l)
      = part X W (rowOf c r) (colOf n l) s := by
  refine Finset.sum_congr rfl fun k _ => ?_
  refine congrArg₂ (· * ·) ?_ rfl
  exact hx s (rowOf c r) k

/-- After the last round a tile's entry is the reference's. -/
theorem acc_apply (hx : Cut x X) (c : Dev nD) (n : Fin 16) (r : Fin 1024) (l : Fin 512) :
    accB (F := Ideal) x W c 3 n (ix2 r l) = Cert.ReferenceIdeal.Pf.refOut X W (ix2 (rowOf c r) (colOf n l)) := by
  rw [accB.eq_4, pay3_apply, accB.eq_3, pay2_apply, accB.eq_2, pay2_apply, accB.eq_1, pay1_apply, own_part hx,
    slot_part hx, slot_part hx, slot_part hx, sum_ord c (part X W (rowOf c r) (colOf n l)), sum_part, ref_apply]

/-- An output block whose tiles are at the last round's contents is the device's block of rows of the reference's result. -/
theorem out_block (hx : Cut x X) (c : Dev nD) (Y : S1024x8192.Idx → Elt Ideal .f32)
    (hY : ∀ n, tileB (F := Ideal) Y n = accB (F := Ideal) x W c 3 n) :
    Y = Layout.block ⟨2, ![1024, 8192]⟩ ⟨2, ![4096, 8192]⟩ 0 4 c (Cert.ReferenceIdeal.Pf.refOut X W) := by
  funext i
  have hi0 : (i 0).val < 1024 := (i 0).isLt
  have hi1 : (i 1).val < 8192 := (i 1).isLt
  have h := congrFun (hY ⟨(i 1).val / 512, by omega⟩) (ix2 (i 0 : Fin 1024) (⟨(i 1).val % 512, by omega⟩ : Fin 512))
  replace h := h.trans (acc_apply hx c _ _ _)
  refine ((congrArg Y (funext fun a => Fin.ext ?_)).trans h).trans (congrArg (Cert.ReferenceIdeal.Pf.refOut X W) (funext fun a => Fin.ext ?_))
  · match a with
    | 0 => rfl
    | 1 => show (i 1).val = (i 1).val / 512 * 512 + (i 1).val % 512; omega
  · match a with
    | 0 => rfl
    | 1 => show (i 1).val / 512 * 512 + (i 1).val % 512 = (i 1).val; omega

end Blocks

end Cert.KernelIdeal.Pf

end
-- ==== Proof.Twin.lean ====
/- The program as printed and the program read over the extended reals have one text: their tables and their main programs are equal. -/
module

public import proofs.«01_k».proof.Proof.Gen.Kernel.Launch
public import proofs.«01_k».proof.Proof.Gen.KernelIdeal.Launch

@[expose] public section

noncomputable section

namespace Cert.Twin

open Idealize.ShloMosaic Idealize.ShloMosaic.TcCoe Idealize.SL.Sem

variable {F : FTy → Type} [FloatOps F]

/-- The two bodies are one function of the grid point and the buffers. -/
theorem body_eq (i a2 ha2 a3 ha3 a4 ha4 a5 ha5 a6 ha6 a7 ha7 a8 a9) :
    Cert.Kernel.cc0_body (F := F) i a2 ha2 a3 ha3 a4 ha4 a5 ha5 a6 ha6 a7 ha7 a8 a9
      = Cert.KernelIdeal.cc0_body (F := F) i a2 ha2 a3 ha3 a4 ha4 a5 ha5 a6 ha6 a7 ha7 a8 a9 := rfl

/-- The two tables of bodies are one. -/
theorem table_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact body_eq ..

/-- The two pipelines are one. -/
theorem pipes_eq : Cert.Kernel.pcfgs (F := F) = Cert.KernelIdeal.pcfgs (F := F) := rfl

/-- With the pipelines put in, the two tables are one. -/
theorem defs_eq : Cert.Kernel.defs (F := F) = Cert.KernelIdeal.defs (F := F) :=
  congrArg (Pipeline.defs Cert.KernelIdeal.pcfgs) table_eq

/-! The host's lines of the two, stretch by stretch. -/

theorem ops_eq (c : Fin 4) : Cert.Kernel.Gen.hostOps0 (F := F) c = Cert.KernelIdeal.Gen.hostOps0 (F := F) c := rfl
theorem ops1_eq : Cert.Kernel.Gen.hostOps0_1 (F := F) = Cert.KernelIdeal.Gen.hostOps0_1 (F := F) := rfl
theorem ops2_eq : Cert.Kernel.Gen.hostOps0_2 (F := F) = Cert.KernelIdeal.Gen.hostOps0_2 (F := F) := rfl
theorem ops3_eq : Cert.Kernel.Gen.hostOps0_3 (F := F) = Cert.KernelIdeal.Gen.hostOps0_3 (F := F) := rfl
theorem ops4_eq : Cert.Kernel.Gen.hostOps0_4 (F := F) = Cert.KernelIdeal.Gen.hostOps0_4 (F := F) := rfl
theorem ops5_eq : Cert.Kernel.Gen.hostOps0_5 (F := F) = Cert.KernelIdeal.Gen.hostOps0_5 (F := F) := rfl
theorem ops6_eq : Cert.Kernel.Gen.hostOps0_6 (F := F) = Cert.KernelIdeal.Gen.hostOps0_6 (F := F) := rfl

/-- The main program as printed is the other's lines and its call. -/
theorem main_lines (c : Fin 4) : Cert.Kernel.main (F := F) c = Pipeline.chain
    [ StableHlo.seq (Cert.KernelIdeal.Gen.hostOps0 c), StableHlo.seq Cert.KernelIdeal.Gen.hostOps0_1,
      StableHlo.seq Cert.KernelIdeal.Gen.hostOps0_2, StableHlo.seq Cert.KernelIdeal.Gen.hostOps0_3,
      StableHlo.seq Cert.KernelIdeal.Gen.hostOps0_4, StableHlo.seq Cert.KernelIdeal.Gen.hostOps0_5,
      StableHlo.seq Cert.KernelIdeal.Gen.hostOps0_6, Prog.lift (.customCall (Pipeline.entry 0) ()) ] := by
  rw [Cert.Kernel.Gen.main_chain, ops_eq, ops1_eq, ops2_eq, ops3_eq, ops4_eq, ops5_eq, ops6_eq]

set_option maxHeartbeats 4000000 in
/-- The two main programs are one. -/
theorem main_eq : Cert.Kernel.main (F := F) = Cert.KernelIdeal.main (F := F) :=
  funext fun c => (main_lines c).trans (Cert.KernelIdeal.Gen.main_chain c).symm

/-- So a run of the one is a run of the other. -/
theorem run_of (m : (ℓ : Loc Cert.Kernel.nD Cert.Kernel.τ Cert.Kernel.sig) → Buf (Elt F) ℓ) (g : Dev Cert.Kernel.nD → PrngReg) (Q)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_eq, main_eq]
  exact h

end Cert.Twin

end
-- ==== Proof.lean ====
/- The certificate: the kernel's run at either float type, the reference's run, and the equation of their results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Run
public import proofs.«01_k».proof.Proof.Equation
public import proofs.«01_k».proof.Proof.Twin
public import Idealize.ShloMosaic.Adequacy
public import Idealize.ShloMosaic.Init

@[expose] public section

noncomputable section

namespace Cert.Proof

open Idealize.ShloMosaic Idealize.SL.Sem

/-- The kernel as printed ends, its arguments as launched and no counter raised. -/
theorem frame_kernel : Cert.quiescent_Kernel := fun m ρ _ => Cert.Twin.run_of m ρ _ <|
  (θ_run Cert.KernelIdeal.defs _ _).mono (fun _ h => ⟨fun c => ⟨(h.1 c).1, (h.1 c).2.1⟩, h.2⟩) (Cert.KernelIdeal.Pf.run_main (F := Bits) m ρ)

/-- So does the kernel over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.KernelIdeal.Pf.run_main (F := Ideal) m ρ)

/-- So does the reference. -/
theorem frame_referenceIdeal : Cert.quiescent_ReferenceIdeal := fun m ρ _ =>
  (θ_run Cert.ReferenceIdeal.defs _ _).mono (fun _ h => ⟨fun c => (h.1 c).2, h.2⟩) (Cert.ReferenceIdeal.Pf.run_ref (F := Ideal) m ρ)

/-- Every device's output block ends as its block of rows of what the reference's result ends as. -/
theorem same_result : Cert.algebraic_KernelIdeal_ReferenceIdeal := fun m ρ m' ρ' _ hin =>
  ⟨Cert.ReferenceIdeal.Pf.refOut (F := Ideal) (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono (fun _ h c => by
      refine ⟨Cert.KernelIdeal.Pf.out_block (Cert.KernelIdeal.Pf.cut_of_block fun d => (hin d).1) c _ fun n => ?_, (h.1 c).1, (h.1 c).2.1⟩
      exact ((h.1 c).2.2 n).trans (congrArg (fun w => Cert.KernelIdeal.Pf.accB (F := Ideal) (Cert.KernelIdeal.Pf.mx m) w c 3 n) (hin c).2))
      (Cert.KernelIdeal.Pf.run_main (F := Ideal) m ρ),
    (θ_run Cert.ReferenceIdeal.defs _ _).mono (fun _ h => h.1 0) (Cert.ReferenceIdeal.Pf.run_ref (F := Ideal) m' ρ')⟩

theorem claim : Cert.Claim := ⟨Cert.Kernel.Gen.facts, Cert.KernelIdeal.Gen.facts, Cert.ReferenceIdeal.Gen.facts,
  frame_kernel, frame_kernelIdeal, frame_referenceIdeal, trivial, same_result⟩

end Cert.Proof

end
